-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x512x2048 : Shape := ⟨3, ![1, 512, 2048]⟩
abbrev S192 : Shape := ⟨1, ![192]⟩
abbrev S2048x8192 : Shape := ⟨2, ![2048, 8192]⟩
abbrev S16x64 : Shape := ⟨2, ![16, 64]⟩
abbrev S_ : Shape := ⟨0, ![]⟩

class Facts : Prop where
  bcast_S_S1x512x2048 : S_.BroadcastsInDim S1x512x2048 (![] : Fin 0 → Fin S1x512x2048.rank)
  reducesTo_S1x512x2048_S_d0_1_2 : S1x512x2048.ReducesTo [0, 1, 2] S_
  h_S_ : 0 < S_.numel
  bcast_S_S192 : S_.BroadcastsInDim S192 (![] : Fin 0 → Fin S192.rank)
  reducesTo_S192_S_d0 : S192.ReducesTo [0] S_

variable [Facts]

def fn {F : FTy → Type} [FloatOps F] (main_arg0 : FVec F S1x512x2048 .bf16) (main_arg1 : IVec S192 32) (main_arg2 : FVec F S2048x8192 .fp8e4m3) (main_arg3 : FVec F S16x64 .f32) : IVec S_ 1 :=
  let main_v0 : FVec F S1x512x2048 .bf16 := Host.absf main_arg0
  let main_cst : FVec F S_ .bf16 := constant S_ .bf16 0x7F7F#16
  let main_v1 : FVec F S1x512x2048 .bf16 := broadcastInDim S1x512x2048 ![] bcast_S_S1x512x2048 main_cst
  let main_v2 : IVec S1x512x2048 1 := cmpf .ole main_v0 main_v1
  let main_c : IVec S_ 1 := constantI S_ 1 1#1
  let main_v3 : IVec S_ 1 := (fun x v => Host.reduce IntOp.andi x v reducesTo_S1x512x2048_S_d0_1_2 h_S_) main_v2 main_c
  let main_c_0 : IVec S_ 32 := constantI S_ 32 0#32
  let main_v4 : IVec S192 32 := broadcastInDim S192 ![] bcast_S_S192 main_c_0
  let main_v5 : IVec S192 1 := cmpi .sge main_arg1 main_v4
  let main_c_1 : IVec S_ 32 := constantI S_ 32 512#32
  let main_v6 : IVec S192 32 := broadcastInDim S192 ![] bcast_S_S192 main_c_1
  let main_v7 : IVec S192 1 := cmpi .slt main_arg1 main_v6
  let main_v8 : IVec S192 1 := andi main_v5 main_v7
  let main_c_2 : IVec S_ 1 := constantI S_ 1 1#1
  let main_v9 : IVec S_ 1 := (fun x v => Host.reduce IntOp.andi x v reducesTo_S192_S_d0 h_S_) main_v8 main_c_2
  let main_v10 : IVec S_ 1 := andi main_v3 main_v9
  main_v10
-- ==== Kernel.lean ====
abbrev S1x512x2048 : Shape := ⟨3, ![1, 512, 2048]⟩
abbrev S192 : Shape := ⟨1, ![192]⟩
abbrev S2048x8192 : Shape := ⟨2, ![2048, 8192]⟩
abbrev S16x64 : Shape := ⟨2, ![16, 64]⟩
abbrev S512x2048 : Shape := ⟨2, ![512, 2048]⟩
abbrev S1x192 : Shape := ⟨2, ![1, 192]⟩
abbrev S192x8192 : Shape := ⟨2, ![192, 8192]⟩
abbrev S192x2048 : Shape := ⟨2, ![192, 2048]⟩
abbrev S192x16 : Shape := ⟨2, ![192, 16]⟩
abbrev S8x512x256 : Shape := ⟨3, ![8, 512, 256]⟩
abbrev S8x256x512 : Shape := ⟨3, ![8, 256, 512]⟩
abbrev S15x2048x512 : Shape := ⟨3, ![15, 2048, 512]⟩
abbrev S16x192x512 : Shape := ⟨3, ![16, 192, 512]⟩
abbrev S2 : Shape := ⟨1, ![2]⟩
abbrev S8 : Shape := ⟨1, ![8]⟩
abbrev S16 : Shape := ⟨1, ![16]⟩
abbrev S1 : Shape := ⟨1, ![1]⟩
abbrev S_ : Shape := ⟨0, ![]⟩
abbrev S1x512x256 : Shape := ⟨3, ![1, 512, 256]⟩
abbrev S512x256 : Shape := ⟨2, ![512, 256]⟩
abbrev S1x256x512 : Shape := ⟨3, ![1, 256, 512]⟩
abbrev S256x512 : Shape := ⟨2, ![256, 512]⟩
abbrev S1x2048x512 : Shape := ⟨3, ![1, 2048, 512]⟩
abbrev S2048x512 : Shape := ⟨2, ![2048, 512]⟩
abbrev S128x192 : Shape := ⟨2, ![128, 192]⟩
abbrev S192x128 : Shape := ⟨2, ![192, 128]⟩
abbrev S192x512 : Shape := ⟨2, ![192, 512]⟩
abbrev S192x256 : Shape := ⟨2, ![192, 256]⟩
abbrev S192x1 : Shape := ⟨2, ![192, 1]⟩
abbrev S192x255 : Shape := ⟨2, ![192, 255]⟩
abbrev S1x1 : Shape := ⟨2, ![1, 1]⟩
abbrev S128x128 : Shape := ⟨2, ![128, 128]⟩
abbrev S128x512 : Shape := ⟨2, ![128, 512]⟩
abbrev S1x192x512 : Shape := ⟨3, ![1, 192, 512]⟩

abbrev nBuf : Space → Nat
  | .hbm => 9
  | .vmem => 8
  | .smem => 1
  | _ => 0

abbrev bufTy : (tb : Table) → Fin (tcTables nBuf tb) → BufTy
  | .hbm, ⟨0, _⟩ => ⟨S1x512x2048, .bf16⟩
  | .hbm, ⟨1, _⟩ => ⟨S192, .i32⟩
  | .hbm, ⟨2, _⟩ => ⟨S2048x8192, .fp8e4m3⟩
  | .hbm, ⟨3, _⟩ => ⟨S16x64, .f32⟩
  | .hbm, ⟨4, _⟩ => ⟨S512x2048, .bf16⟩
  | .hbm, ⟨5, _⟩ => ⟨S1x192, .i32⟩
  | .hbm, ⟨6, _⟩ => ⟨S192x8192, .bf16⟩
  | .hbm, ⟨7, _⟩ => ⟨S192x2048, .fp8e4m3⟩
  | .hbm, ⟨8, _⟩ => ⟨S192x16, .f32⟩
  | .local _ .vmem, ⟨0, _⟩ => ⟨S1x192, .i32⟩
  | .local _ .vmem, ⟨1, _⟩ => ⟨S8x512x256, .bf16⟩
  | .local _ .vmem, ⟨2, _⟩ => ⟨S8x256x512, .fp8e4m3⟩
  | .local _ .vmem, ⟨3, _⟩ => ⟨S15x2048x512, .fp8e4m3⟩
  | .local _ .vmem, ⟨4, _⟩ => ⟨S192x2048, .bf16⟩
  | .local _ .vmem, ⟨5, _⟩ => ⟨S16x192x512, .bf16⟩
  | .local _ .vmem, ⟨6, _⟩ => ⟨S192x2048, .fp8e4m3⟩
  | .local _ .vmem, ⟨7, _⟩ => ⟨S192x16, .f32⟩
  | .local _ .smem, ⟨0, _⟩ => ⟨S16x64, .f32⟩
  | _, _ => ⟨S1x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_scratch0 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch1 : Ref sig .tc := ⟨.smem, 0, rfl⟩

abbrev nD : Nat := 1
abbrev τ : Topo := Topo.v7x

variable {F : FTy → Type} [FloatOps F]

abbrev grid0 : Pipeline.Grid := .none
-- ==== ReferenceIdeal.lean ====
abbrev S1x512x2048 : Shape := ⟨3, ![1, 512, 2048]⟩
abbrev S192 : Shape := ⟨1, ![192]⟩
abbrev S2048x8192 : Shape := ⟨2, ![2048, 8192]⟩
abbrev S16x64 : Shape := ⟨2, ![16, 64]⟩
abbrev S512x2048 : Shape := ⟨2, ![512, 2048]⟩
abbrev S_ : Shape := ⟨0, ![]⟩
abbrev S192x1 : Shape := ⟨2, ![192, 1]⟩
abbrev S1 : Shape := ⟨1, ![1]⟩
abbrev S1x1 : Shape := ⟨2, ![1, 1]⟩
abbrev S192x2048 : Shape := ⟨2, ![192, 2048]⟩
abbrev S192x8192 : Shape := ⟨2, ![192, 8192]⟩
abbrev S192x16 : Shape := ⟨2, ![192, 16]⟩
abbrev S192x16x128 : Shape := ⟨3, ![192, 16, 128]⟩
abbrev S192x16x1 : Shape := ⟨3, ![192, 16, 1]⟩
abbrev S16x128x64x128 : Shape := ⟨4, ![16, 128, 64, 128]⟩
abbrev S16x1x64x1 : Shape := ⟨4, ![16, 1, 64, 1]⟩

abbrev nBuf : Space → Nat
  | .hbm => 31
  | .vmem => 6
  | .smem => 0
  | _ => 0

abbrev bufTy : (tb : Table) → Fin (tcTables nBuf tb) → BufTy
  | .hbm, ⟨0, _⟩ => ⟨S1x512x2048, .bf16⟩
  | .hbm, ⟨1, _⟩ => ⟨S192, .i32⟩
  | .hbm, ⟨2, _⟩ => ⟨S2048x8192, .fp8e4m3⟩
  | .hbm, ⟨3, _⟩ => ⟨S16x64, .f32⟩
  | .hbm, ⟨4, _⟩ => ⟨S512x2048, .bf16⟩
  | .hbm, ⟨5, _⟩ => ⟨S_, .i32⟩
  | .hbm, ⟨6, _⟩ => ⟨S192, .i32⟩
  | .hbm, ⟨7, _⟩ => ⟨S192, .i1⟩
  | .hbm, ⟨8, _⟩ => ⟨S_, .i32⟩
  | .hbm, ⟨9, _⟩ => ⟨S192, .i32⟩
  | .hbm, ⟨10, _⟩ => ⟨S192, .i32⟩
  | .hbm, ⟨11, _⟩ => ⟨S192, .i32⟩
  | .hbm, ⟨12, _⟩ => ⟨S192x1, .i32⟩
  | .hbm, ⟨13, _⟩ => ⟨S1, .i32⟩
  | .hbm, ⟨14, _⟩ => ⟨S_, .i32⟩
  | .hbm, ⟨15, _⟩ => ⟨S192x1, .i32⟩
  | .hbm, ⟨16, _⟩ => ⟨S192x1, .i1⟩
  | .hbm, ⟨17, _⟩ => ⟨S1x1, .i32⟩
  | .hbm, ⟨18, _⟩ => ⟨S192x1, .i32⟩
  | .hbm, ⟨19, _⟩ => ⟨S192x1, .i1⟩
  | .hbm, ⟨20, _⟩ => ⟨S192x1, .i1⟩
  | .hbm, ⟨21, _⟩ => ⟨S_, .i1⟩
  | .hbm, ⟨22, _⟩ => ⟨S192, .i1⟩
  | .hbm, ⟨23, _⟩ => ⟨S192x2048, .bf16⟩
  | .hbm, ⟨24, _⟩ => ⟨S192x2048, .i1⟩
  | .hbm, ⟨25, _⟩ => ⟨S_, .bf16⟩
  | .hbm, ⟨26, _⟩ => ⟨S192x2048, .bf16⟩
  | .hbm, ⟨27, _⟩ => ⟨S192x2048, .bf16⟩
  | .hbm, ⟨28, _⟩ => ⟨S192x8192, .bf16⟩
  | .hbm, ⟨29, _⟩ => ⟨S192x2048, .fp8e4m3⟩
  | .hbm, ⟨30, _⟩ => ⟨S192x16, .f32⟩
  | .local _ .vmem, ⟨0, _⟩ => ⟨S192x2048, .bf16⟩
  | .local _ .vmem, ⟨1, _⟩ => ⟨S2048x8192, .fp8e4m3⟩
  | .local _ .vmem, ⟨2, _⟩ => ⟨S16x64, .f32⟩
  | .local _ .vmem, ⟨3, _⟩ => ⟨S192x8192, .bf16⟩
  | .local _ .vmem, ⟨4, _⟩ => ⟨S192x2048, .fp8e4m3⟩
  | .local _ .vmem, ⟨5, _⟩ => ⟨S192x16, .f32⟩
  | _, _ => ⟨S1x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RunBits.lean ====
/-
  The run of the kernel's body: every copy it issues, waits for and every block it computes, part by part of the printed
  program. LaunchBits.lean makes the run of the whole program out of it.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameValue
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of buffer `b` of core `c`; that buffer held whole at contents `f`; its transfer semaphore `n` at zero. -/
abbrev Bf (c : Dev nD) (b : Ref sig .tc) : Type := Buf (Elt F) ((c : Thread nD τ).loc b)
abbrev pt (c : Dev nD) (b : Ref sig .tc) (f : Bf (F := F) c b) : sProp 𝕄 := (Memref.whole b).view.loc (c : Thread nD τ) ↦{fullShare} f
abbrev sem (c : Dev nD) (n : Fin 52) : sProp 𝕄 := semVal ((c : Thread nD τ), SemLoc.dma n) 0

-- A transfer into a slot lends that slot only, so that the copies into the other slots of one buffer can be issued while it flies.
set_option sl_exec.dmaWindow true in
set_option sl_exec.dmaWindowLent true in
set_option maxHeartbeats 0 in
/-- The kernel's body, run once at any contents of its buffers. From the four operands, the three results and the nine
    scratch buffers held whole, its 52 transfer semaphores at zero and nothing owed, it runs to its return, hands the operands
    back as they were and every semaphore at zero, and leaves the three results at the contents `R` that the run finds: `R.1`
    is the product, `R.2.1` the codes, `R.2.2` the scales. -/
noncomputable def kernelRun (c : Dev nD) (fi : Bf (F := F) c main_v1) (fx : Bf (F := F) c main_v0) (fs : Bf (F := F) c main_arg3)
    (fw : Bf (F := F) c main_arg2)
    (y0 : Bf (F := F) c main_v2_0) (y1 : Bf (F := F) c main_v2_1) (y2 : Bf (F := F) c main_v2_2)
    (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) :
    { R : Bf (F := F) c main_v2_0 × Bf (F := F) c main_v2_1 × Bf (F := F) c main_v2_2 //
      ∀ (W : Waits sig Unit) (K : PUnit → sProp 𝕄),

        iprop(pt c main_v1 fi ∗ pt c main_v0 fx ∗ pt c main_arg3 fs ∗ pt c main_arg2 fw
            ∗ pt c main_v2_0 y0 ∗ pt c main_v2_1 y1 ∗ pt c main_v2_2 y2
            ∗ pt c cc0_scratch0 s0 ∗ pt c cc0_scratch1 s1 ∗ pt c cc0_scratch2 s2 ∗ pt c cc0_scratch3 s3 ∗ pt c cc0_scratch4 s4 ∗ pt c cc0_scratch5 s5 ∗ pt c cc0_scratch6 s6 ∗ pt c cc0_scratch7 s7 ∗ pt c cc0_scratch8 s8
            ∗ sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51
            ∗ owes (c : Thread nD τ) 0 W
            ∗ (iprop(pt c main_v1 fi ∗ pt c main_v0 fx ∗ pt c main_arg3 fs ∗ pt c main_arg2 fw
                ∗ pt c main_v2_0 R.1 ∗ pt c main_v2_1 R.2.1 ∗ pt c main_v2_2 R.2.2
                ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f)
                ∗ sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51
                ∗ (∃ W', owes (c : Thread nD τ) 0 W')) -∗ K ⟨⟩))
          ⊢ wp frame (wpE (defs₀ (F := F)) Variants.none c none) Set.univ
              (cc0_gathered_fp8_linear (Memref.whole main_v1) (Memref.isWhole_whole _) (Memref.whole main_v0) (Memref.isWhole_whole _) (Memref.whole main_arg3) (Memref.isWhole_whole _) (Memref.whole main_arg2) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
                cc0_scratch9 cc0_scratch10 cc0_scratch11 cc0_scratch12 cc0_scratch13 cc0_scratch14) K } := by
  refine ⟨⟨?_, ?_, ?_⟩, fun W K => ?run⟩
  case run =>
    iintro ⟨Hi, Hx, Hs, Hw, Hy0, Hy1, Hy2, HS0, HS1, HS2, HS3, HS4, HS5, HS6, HS7, HS8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, HW, Hk⟩
    sl_exec_parts
    sl_step
    iapply Hk
    isplitl [Hi]; · iexact Hi
    isplitl [Hx]; · iexact Hx
    isplitl [Hs]; · iexact Hs
    isplitl [Hw]; · iexact Hw
    isplitl [Hy0]; · iexact Hy0
    isplitl [Hy1]; · iexact Hy1
    isplitl [Hy2]; · iexact Hy2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    isplitl [Q51]; · iexact Q51
    iexists _; iexact HW

end Cert.Kernel.Hand

end
-- ==== Proof.LaunchBits.lean ====
/-
  The launch: the run of @main out of the run of its one kernel's body (RunBits.lean). @main reshapes the rows and the indices,
  then calls the kernel once; the kernel reads its four operands in HBM and writes its three results in HBM by its own copies.
  `frame_run` says that the program ends with its four arguments as they were and every semaphore at zero.
-/
module

public import proofs.«01_k».proof.Proof.Gen.Kernel.Frame
public import proofs.«01_k».proof.Proof.RunBits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds when it is called -/

/-- The results, which the body's copies write. -/
def R0 : Finset (Ref sig .tc) := {main_v2_0, main_v2_1, main_v2_2}
/-- The operands, which the body's copies read. -/
def H0 : Finset (Ref sig .tc) := {main_v1, main_v0, main_arg3, main_arg2}
theorem H0_sub : H0 ⊆ Pipeline.restRefs sig cfg0.spec := by decide
theorem R0_sub : R0 ⊆ Pipeline.restRefs sig cfg0.spec \ H0 := by decide
/-- The body's transfer semaphores. -/
abbrev osem0 : Fin 52 → SemLoc sig := fun j => SemLoc.dma j
theorem ownSemFacts0 : Pipeline.OwnSemFacts cfg0.spec osem0 := by decide

set_option maxHeartbeats 800000 in
/-- @main up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = iprop(sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51] (by decide) (by decide)]; rfl
theorem hbmPts0_eq (c : Dev nD) :
    (bigSep H0 (fun b => ((c : Thread nD τ).loc b) ↦{fullShare} V m c b) : sProp 𝕄)
      = iprop(pt c main_v1 (V m c main_v1) ∗ pt c main_v0 (V m c main_v0) ∗ pt c main_arg3 (V m c main_arg3) ∗ pt c main_arg2 (V m c main_arg2)) := by
  rw [BI.bigSep_eq_bigSepL_of_eq [main_v1, main_v0, main_arg3, main_arg2] (by decide) (by decide)]; rfl
theorem ownedPts0_eq (c : Dev nD) :
    (Pipeline.owned R0 c : sProp 𝕄)
      = iprop((∃ f, pt c main_v2_0 f) ∗ (∃ f, pt c main_v2_1 f) ∗ (∃ f, pt c main_v2_2 f)) := by
  unfold Pipeline.owned; rw [BI.bigSep_eq_bigSepL_of_eq [main_v2_0, main_v2_1, main_v2_2] (by decide) (by decide)]; rfl
theorem scoped0_eq (c : Dev nD) :
    (Pipeline.scopedRest (Ix := Unit) (Name := ℕ) (U := Pipeline.UD sig nD τ) (Lvl := ℕ) (Val := Elt F) cfg0.spec c : sProp 𝕄)
      = iprop((∃ f, pt c cc0_scratch0 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch1 f)) :=
  scopedRest0_eq c

/-- The call stages no window. -/
theorem bigSep_W0 (Φ : Fin cfg0.W → sProp 𝕄) : bigSep Finset.univ Φ = iprop(emp) := by
  rw [show (Finset.univ : Finset (Fin cfg0.W)) = ∅ from rfl]; exact bigSep_empty
theorem defs₀_row (t : Fin cfg0.N) :
    defs₀ (F := F) .tc cfg0.body (cfg0.bodyArgs t (cfg0.slots t)) = bodyAt0 t := by
  unfold defs₀; rw [Defs.onTc_tc]

/-- Everything the body holds when its results are held at some contents. -/
theorem PhiDR0_eq (c : Dev nD) :
    (Pipeline.ΦDR osem0 cfg0.spec H0 R0 (V m) c : sProp 𝕄)
      = iprop(iprop((∃ f, pt c cc0_scratch0 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch1 f))
          ∗ (∃ r, prngReg c r)
          ∗ iprop(sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51)
          ∗ iprop(pt c main_v1 (V m c main_v1) ∗ pt c main_v0 (V m c main_v0) ∗ pt c main_arg3 (V m c main_arg3) ∗ pt c main_arg2 (V m c main_arg2))
          ∗ iprop((∃ f, pt c main_v2_0 f) ∗ (∃ f, pt c main_v2_1 f) ∗ (∃ f, pt c main_v2_2 f))) := by
  rw [Pipeline.ΦDR_eq, ownSems00_eq, hbmPts0_eq, ownedPts0_eq, scoped0_eq]

/-- The proof data of the one call: no window; what the body holds. -/
def dats (_ : Fin 1) (c : Dev nD) : Dat τ (Elt F) Unit ℕ (Pipeline.UD sig nD τ) ℕ cfg0 c where
  A w := w.elim0
  after w := w.elim0
  Φ t := Pipeline.ΦDR osem0 cfg0.spec H0 R0 (V m) c
  q _ := fullShare
  owed _ := 0

theorem sound_body (c : Dev nD) (t : Fin cfg0.N) :
    iprop(Pipeline.ΦDR osem0 cfg0.spec H0 R0 (V m) c ∗ (∃ W, owes (c : Thread nD τ) 0 W))
      ⊢ wp frame (wpE (defs₀ (F := F)) Variants.none c none) Set.univ (bodyAt0 t)
          (fun _ => iprop(Pipeline.ΦDR osem0 cfg0.spec H0 R0 (V m) c ∗ (∃ W, owes (c : Thread nD τ) 0 W))) := by
  rw [PhiDR0_eq]
  iintro ⟨⟨⟨⟨%s0, S0⟩, ⟨%s2, S2⟩, ⟨%s3, S3⟩, ⟨%s4, S4⟩, ⟨%s5, S5⟩, ⟨%s6, S6⟩, ⟨%s7, S7⟩, ⟨%s8, S8⟩, ⟨%s1, S1⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51⟩, ⟨Hi, Hx, Hs, Hw⟩, ⟨⟨%y0, Hy0⟩, ⟨%y1, Hy1⟩, ⟨%y2, Hy2⟩⟩⟩, ⟨%W, HW⟩⟩
  iapply ((kernelRun c (V m c main_v1) (V m c main_v0) (V m c main_arg3) (V m c main_arg2) y0 y1 y2 s0 s1 s2 s3 s4 s5 s6 s7 s8).2 W _)
  isplitl [Hi]; · iexact Hi
  isplitl [Hx]; · iexact Hx
  isplitl [Hs]; · iexact Hs
  isplitl [Hw]; · iexact Hw
  isplitl [Hy0]; · iexact Hy0
  isplitl [Hy1]; · iexact Hy1
  isplitl [Hy2]; · iexact Hy2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [Q46]; · iexact Q46
  isplitl [Q47]; · iexact Q47
  isplitl [Q48]; · iexact Q48
  isplitl [Q49]; · iexact Q49
  isplitl [Q50]; · iexact Q50
  isplitl [Q51]; · iexact Q51
  isplitl [HW]; · iexact HW
  iintro ⟨Hi, Hx, Hs, Hw, Hy0, Hy1, Hy2, S0, S1, S2, S3, S4, S5, S6, S7, S8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, HW⟩
  isplitr [HW]
  swap; · iexact HW
  isplitl [S0 S1 S2 S3 S4 S5 S6 S7 S8]
  · isplitl [S0]; · iexact S0
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S1
  isplitl [Hg]; · iexact Hg
  isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    iexact Q51
  isplitl [Hi Hx Hs Hw]
  · isplitl [Hi]; · iexact Hi
    isplitl [Hx]; · iexact Hx
    isplitl [Hs]; · iexact Hs
    iexact Hw
  isplitl [Hy0]; · iexists _; iexact Hy0
  isplitl [Hy1]; · iexists _; iexact Hy1
  iexists _; iexact Hy2

theorem body_obligation (c : Dev nD) : BodyObligation (dats (F := F) m 0 c) (defs₀ (F := F)) Variants.none () Set.univ := fun t => by
  have ht : t = t0_0 := fin_N0 t
  subst ht
  have h0 : (dats (F := F) m 0 c).Φ t0_0.castSucc = Pipeline.ΦDR osem0 cfg0.spec H0 R0 (V m) c := rfl
  have h1 : (dats (F := F) m 0 c).Φ t0_0.succ = Pipeline.ΦDR osem0 cfg0.spec H0 R0 (V m) c := rfl
  rw [bigSep_W0, bigSep_W0, defs₀_row, h0, h1]
  unfold Dat.owesAt Pipeline.owesWithin
  refine triple_restated (sound_body m c t0_0) rfl ?_ fun _ => ?_
  · iintro ⟨HP, ⟨%W, -, HW⟩, -⟩
    isplitl [HP]; · iexact HP
    iexists W; iexact HW
  · iintro ⟨HP, ⟨%W, HW⟩⟩
    isplitl [HP]; · iexact HP
    isplitl [HW]
    · iexists W; isplitr; · ipureintro; exact fun _ _ => Or.inl trivial
      iexact HW
    iempintro

set_option backward.isDefEq.respectTransparency.types false in
theorem run_frame : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0)
    (hin := fun _ => .rfl) (hout := fun _ => .rfl)

/-- An argument array is none of the results, so it ends as it was launched. -/
theorem rest_of (b : Ref sig .tc) (h1 : b ∈ Pipeline.restRefs sig cfg0.spec) (h2 : b ∉ R0) : b ∈ Pipeline.restRefs sig cfg0.spec \ R0 :=
  Finset.mem_sdiff.mpr ⟨h1, h2⟩

/-- The program ends with its arguments as they were and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (rest_of _ (by decide) (by decide))).trans (V_main_arg0 m c),
       ((h.1 c).2 main_arg1 (rest_of _ (by decide) (by decide))).trans (V_main_arg1 m c),
       ((h.1 c).2 main_arg2 (rest_of _ (by decide) (by decide))).trans (V_main_arg2 m c),
       ((h.1 c).2 main_arg3 (rest_of _ (by decide) (by decide))).trans (V_main_arg3 m c)⟩, h.2⟩) (run_frame m ρ)

end Cert.Kernel.Hand

end
-- ==== Proof.RunIdeal.lean ====
/-
  The run of the kernel's body: every copy it issues, waits for and every block it computes, part by part of the printed
  program. LaunchIdeal.lean makes the run of the whole program out of it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of buffer `b` of core `c`; that buffer held whole at contents `f`; its transfer semaphore `n` at zero. -/
abbrev Bf (c : Dev nD) (b : Ref sig .tc) : Type := Buf (Elt F) ((c : Thread nD τ).loc b)
abbrev pt (c : Dev nD) (b : Ref sig .tc) (f : Bf (F := F) c b) : sProp 𝕄 := (Memref.whole b).view.loc (c : Thread nD τ) ↦{fullShare} f
abbrev sem (c : Dev nD) (n : Fin 52) : sProp 𝕄 := semVal ((c : Thread nD τ), SemLoc.dma n) 0

-- A transfer into a slot lends that slot only, so that the copies into the other slots of one buffer can be issued while it flies.
set_option sl_exec.dmaWindow true in
set_option sl_exec.dmaWindowLent true in
set_option maxHeartbeats 0 in
/-- The kernel's body, run once at any contents of its buffers. From the four operands, the three results and the nine
    scratch buffers held whole, its 52 transfer semaphores at zero and nothing owed, it runs to its return, hands the operands
    back as they were and every semaphore at zero, and leaves the three results at the contents `R` that the run finds: `R.1`
    is the product, `R.2.1` the codes, `R.2.2` the scales. -/
noncomputable def kernelRun (c : Dev nD) (fi : Bf (F := F) c main_v1) (fx : Bf (F := F) c main_v0) (fs : Bf (F := F) c main_arg3)
    (fw : Bf (F := F) c main_arg2)
    (y0 : Bf (F := F) c main_v2_0) (y1 : Bf (F := F) c main_v2_1) (y2 : Bf (F := F) c main_v2_2)
    (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) :
    { R : Bf (F := F) c main_v2_0 × Bf (F := F) c main_v2_1 × Bf (F := F) c main_v2_2 //
      ∀ (W : Waits sig Unit) (K : PUnit → sProp 𝕄),

        iprop(pt c main_v1 fi ∗ pt c main_v0 fx ∗ pt c main_arg3 fs ∗ pt c main_arg2 fw
            ∗ pt c main_v2_0 y0 ∗ pt c main_v2_1 y1 ∗ pt c main_v2_2 y2
            ∗ pt c cc0_scratch0 s0 ∗ pt c cc0_scratch1 s1 ∗ pt c cc0_scratch2 s2 ∗ pt c cc0_scratch3 s3 ∗ pt c cc0_scratch4 s4 ∗ pt c cc0_scratch5 s5 ∗ pt c cc0_scratch6 s6 ∗ pt c cc0_scratch7 s7 ∗ pt c cc0_scratch8 s8
            ∗ sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51
            ∗ owes (c : Thread nD τ) 0 W
            ∗ (iprop(pt c main_v1 fi ∗ pt c main_v0 fx ∗ pt c main_arg3 fs ∗ pt c main_arg2 fw
                ∗ pt c main_v2_0 R.1 ∗ pt c main_v2_1 R.2.1 ∗ pt c main_v2_2 R.2.2
                ∗ (∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f)
                ∗ sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51
                ∗ (∃ W', owes (c : Thread nD τ) 0 W')) -∗ K ⟨⟩))
          ⊢ wp frame (wpE (defs₀ (F := F)) Variants.none c none) Set.univ
              (cc0_gathered_fp8_linear (Memref.whole main_v1) (Memref.isWhole_whole _) (Memref.whole main_v0) (Memref.isWhole_whole _) (Memref.whole main_arg3) (Memref.isWhole_whole _) (Memref.whole main_arg2) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
                cc0_scratch9 cc0_scratch10 cc0_scratch11 cc0_scratch12 cc0_scratch13 cc0_scratch14) K } := by
  refine ⟨⟨?_, ?_, ?_⟩, fun W K => ?run⟩
  case run =>
    iintro ⟨Hi, Hx, Hs, Hw, Hy0, Hy1, Hy2, HS0, HS1, HS2, HS3, HS4, HS5, HS6, HS7, HS8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, HW, Hk⟩
    sl_exec_parts
    sl_step
    iapply Hk
    isplitl [Hi]; · iexact Hi
    isplitl [Hx]; · iexact Hx
    isplitl [Hs]; · iexact Hs
    isplitl [Hw]; · iexact Hw
    isplitl [Hy0]; · iexact Hy0
    isplitl [Hy1]; · iexact Hy1
    isplitl [Hy2]; · iexact Hy2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    isplitl [Q51]; · iexact Q51
    iexists _; iexact HW

end Cert.KernelIdeal.Hand

end
-- ==== Proof.Step.lean ====
/-
  What the kernel's body computes, as few functions used for every block: the rows a one-hot product picks, a group of 128
  quantised, a weight tile scaled, a chunk of the product. Each stored piece of the run (RunIdeal.lean) is one of them.
-/
module

public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The rows of a 512-row block of 256 columns that the indices pick, by the one-hot product. -/
def sel (ids : Vec F S1x192 .i32) (x : Vec F S1x512x256 .bf16) : FVec F S192x256 .f32 :=
  matmul dot_S192x512_S512x256_S192x256_1_0_0_1_n_n none (k0_pay1 (F := F) ids) (shapeCast S512x256 x shapeCasts_S1x512x256_S512x256)
    (constant S192x256 .f32 0x00000000#32)

/-- The left or right group of 128 columns. -/
def half (v : FVec F S192x256 .f32) : Fin 2 → FVec F S192x128 .f32
  | 0 => extractStridedSlice S192x128 ![0, 0] v slices_S192x256_o0_0_S192x128
  | 1 => extractStridedSlice S192x128 ![0, 128] v slices_S192x256_o0_128_S192x128

/-- A row's greatest magnitude, over 448. -/
def top (v : FVec F S192x128 .f32) : FVec F S192x1 .f32 :=
  mulf (shapeCast S192x1 (multiReduction .maximumf [1] S192 (absf v) 0xFF800000#32 reduces_S192x128_S192 (.inl rfl) rfl)
    shapeCasts_S192_S192x1) (broadcast S192x1 (Scalar.ofBits .f32 0x3B124925#32))

/-- The exponent field of each entry, in place. -/
def field (t : FVec F S192x1 .f32) : IVec S192x1 32 :=
  shli (shapeCast S192x1 (multiReductionI .add [1] S192 (extui 32 (cmpf .oge (broadcastTo S192x255 t broadcasts_S192x1_S192x255)
    (bitcastToFloat .f32 (shli (addi (iota .tc S192x255 32 [1] iota_S192x255_d1_w32) (broadcast S192x255 1#32)) (broadcast S192x255 23#32))))
    natLt_1_32) 0#32 reduces_S192x255_S192 rfl) shapeCasts_S192_S192x1) (broadcast S192x1 23#32)

/-- The exponent field used: that of 1/2 where the field is 0 or full. -/
def expo (t : FVec F S192x1 .f32) : IVec S192x1 32 :=
  select (ori (cmpi .eq (field t) (broadcast S192x1 0#32)) (cmpi .eq (field t) (broadcast S192x1 2139095040#32)))
    (broadcast S192x1 1056964608#32) (field t)

/-- The scale of each row of a group. -/
def scl (v : FVec F S192x128 .f32) : FVec F S192x1 .f32 :=
  bitcastToFloat .f32 (addi (expo (top v)) (broadcast S192x1 8388608#32))

/-- Its inverse. -/
def inv (v : FVec F S192x128 .f32) : FVec F S192x1 .f32 :=
  bitcastToFloat .f32 (subi (broadcast S192x1 2122317824#32) (expo (top v)))

/-- The codes of a group. -/
def cod (v : FVec F S192x128 .f32) : FVec F S192x128 .fp8e4m3 :=
  truncf .fp8e4m3 (minimumf (broadcast S192x128 (Scalar.ofBits .f32 0x43E00000#32))
    (maximumf (broadcast S192x128 (Scalar.ofBits .f32 0xC3E00000#32)) (mulf v (broadcastTo S192x128 (inv v) broadcasts_S192x1_S192x128))))
    bitsLt_fp8e4m3_f32

/-- The codes times their scale. -/
def deq (v : FVec F S192x128 .f32) : FVec F S192x128 .bf16 :=
  mulf (extf .bf16 (cod v) bitsLt_fp8e4m3_bf16)
    (truncf .bf16 (broadcastTo S192x128 (shapeCast S192x1 (scl v) shapeCasts_S192x1_S192x1) broadcasts_S192x1_S192x128) bitsLt_bf16_f32)

/-- Two groups beside each other. -/
def xblk (v : FVec F S192x256 .f32) : FVec F S192x256 .bf16 :=
  concatenate S192x256 1 [⟨S192x128, deq (half v 0)⟩, ⟨S192x128, deq (half v 1)⟩] concatenates_S192x128_S192x128_S192x256_d1

/-- One 128×128 block of weights times its scale. -/
def wone (b : FVec F S128x128 .fp8e4m3) (s : Elt F .f32) : FVec F S128x128 .bf16 :=
  mulf (extf .bf16 b bitsLt_fp8e4m3_bf16) (truncf .bf16 (broadcast S128x128 s) bitsLt_bf16_f32)

/-- Four blocks of one row of blocks. -/
def wrow (b : Fin 4 → FVec F S128x128 .fp8e4m3) (s : Fin 4 → Elt F .f32) : FVec F S128x512 .bf16 :=
  concatenate S128x512 1 [⟨S128x128, wone (b 0) (s 0)⟩, ⟨S128x128, wone (b 1) (s 1)⟩, ⟨S128x128, wone (b 2) (s 2)⟩, ⟨S128x128, wone (b 3) (s 3)⟩]
    concatenates_S128x128_S128x128_S128x128_S128x128_S128x512_d1

/-- A weight tile of 256 rows and 512 columns, each 128×128 block times its scale. -/
def wtile (w : Vec F S1x256x512 .fp8e4m3) (s : Fin 2 → Fin 4 → Elt F .f32) : FVec F S256x512 .bf16 :=
  have t : FVec F S256x512 .fp8e4m3 := shapeCast S256x512 w shapeCasts_S1x256x512_S256x512
  concatenate S256x512 0
    [⟨S128x512, wrow ![extractStridedSlice S128x128 ![0, 0] t slices_S256x512_o0_0_S128x128,
        extractStridedSlice S128x128 ![0, 128] t slices_S256x512_o0_128_S128x128,
        extractStridedSlice S128x128 ![0, 256] t slices_S256x512_o0_256_S128x128,
        extractStridedSlice S128x128 ![0, 384] t slices_S256x512_o0_384_S128x128] (s 0)⟩,
     ⟨S128x512, wrow ![extractStridedSlice S128x128 ![128, 0] t slices_S256x512_o128_0_S128x128,
        extractStridedSlice S128x128 ![128, 128] t slices_S256x512_o128_128_S128x128,
        extractStridedSlice S128x128 ![128, 256] t slices_S256x512_o128_256_S128x128,
        extractStridedSlice S128x128 ![128, 384] t slices_S256x512_o128_384_S128x128] (s 1)⟩]
    concatenates_S128x512_S128x512_S256x512_d0

/-- The product of 256 columns of the left factor with a tile. -/
def part (x : FVec F S192x256 .bf16) (w : FVec F S256x512 .bf16) : FVec F S192x512 .f32 :=
  matmul dot_S192x256_S256x512_S192x512_1_0_0_1_n_n none x w (constant S192x512 .f32 0x00000000#32)

/-- A chunk of 512 result columns: the eight partial products added up in order, `s` all the weight scales, `q` the chunk. -/
def chunk (x : Fin 8 → FVec F S192x256 .bf16) (w : Fin 8 → Vec F S1x256x512 .fp8e4m3) (s : Fin 16 → Fin 64 → Elt F .f32) (q : Fin 16) :
    FVec F S192x512 .bf16 :=
  have p : Fin 8 → FVec F S192x512 .f32 := fun k => part (x k) (wtile (w k) fun g n => s ⟨2 * k.1 + g.1, by omega⟩ ⟨4 * q.1 + n.1, by omega⟩)
  truncf .bf16 (addf (addf (addf (addf (addf (addf (addf (p 0) (p 1)) (p 2)) (p 3)) (p 4)) (p 5)) (p 6)) (p 7)) bitsLt_bf16_f32

/-! ## What the run loads -/

variable (c : Dev nD)

/-- The in-bounds fact of block `k` along the first of three axes. -/
theorem inb3 {N A B a b k : ℕ} (h : k < N) (o : ℕ) (ha : o + a ≤ A) (hb : b ≤ B) :
    ∀ i, (![k, o, 0] : Fin 3 → ℕ) i + (⟨3, ![1, a, b]⟩ : Shape).size i ≤ (⟨3, ![N, A, B]⟩ : Shape).size i := by
  intro i
  match i with
  | ⟨0, _⟩ => exact h
  | ⟨1, _⟩ => exact ha
  | ⟨2, _⟩ => simpa using hb

/-- The in-bounds fact of a box of a matrix. -/
theorem inb2 {A B a b : ℕ} (o u : ℕ) (ha : o + a ≤ A) (hb : u + b ≤ B) :
    ∀ i, (![o, u] : Fin 2 → ℕ) i + (⟨2, ![a, b]⟩ : Shape).size i ≤ (⟨2, ![A, B]⟩ : Shape).size i := by
  intro i
  match i with
  | ⟨0, _⟩ => exact ha
  | ⟨1, _⟩ => exact hb

/-- A buffer of `N` slots after its first `n` slots are filled, one copy each. -/
def slots {N A B : ℕ} {e : EltTy} (M : Memref sig .tc .vmem ⟨3, ![N, A, B]⟩ e)
    (hs : (⟨3, ![1, A, B]⟩ : Shape).Squeezes ⟨2, ![A, B]⟩) (f : M.view.ty.Contents (Elt F)) (w : Fin N → (⟨2, ![A, B]⟩ : Shape).Idx → Elt F e) :
    (n : ℕ) → n ≤ N → M.view.ty.Contents (Elt F)
  | 0, _ => f
  | n + 1, h => View.write (Elt F)
      ((M.slice (Rect.unit (s := ⟨3, ![N, A, B]⟩) ![n, 0, 0] (⟨3, ![1, A, B]⟩ : Shape).size (inb3 h 0 (Nat.zero_add A).le le_rfl)) (fun _ => rfl)).squeeze ⟨2, ![A, B]⟩ hs).view
      (slots M hs f w n (Nat.le_of_succ_le h)) (w ⟨n, h⟩) Finset.univ

variable (fi : Bf (F := F) c main_v1) (fx : Bf (F := F) c main_v0) (fs : Bf (F := F) c main_arg3) (fw : Bf (F := F) c main_arg2)
  (s0 : Bf (F := F) c cc0_scratch0) (s1 : Bf (F := F) c cc0_scratch1) (s2 : Bf (F := F) c cc0_scratch2) (s3 : Bf (F := F) c cc0_scratch3)
  (s4 : Bf (F := F) c cc0_scratch4)

theorem xin (i : Fin 8) : ∀ a, (![0, 256 * i.1] : Fin 2 → ℕ) a + S512x256.size a ≤ S512x2048.size a := inb2 0 (256 * i.1) (by omega) (by omega)
theorem w0in (i : Fin 8) : ∀ a, (![256 * i.1, 0] : Fin 2 → ℕ) a + S256x512.size a ≤ S2048x8192.size a := inb2 (256 * i.1) 0 (by omega) (by omega)
theorem win (i : Fin 15) : ∀ a, (![0, 512 * i.1 + 512] : Fin 2 → ℕ) a + S2048x512.size a ≤ S2048x8192.size a :=
  inb2 0 (512 * i.1 + 512) (by omega) (by omega)

/-- The indices as loaded. -/
def idsL : Vec F S1x192 .i32 :=
  View.readAt (Elt F) (Memref.whole cc0_scratch0).view (Rect.unit (s := S1x192) ![0, 0] S1x192.size inb_S1x192_S1x192_0_0).toLoadRect
    (View.write (Elt F) (Memref.whole cc0_scratch0).view s0 (ReadAs.same.apply (View.read (Elt F) (Memref.whole main_v1).view fi)) Finset.univ)

/-- The weight scale of block (a, b) as loaded. -/
def scaleL (a : Fin 16) (b : Fin 64) : Elt F .f32 :=
  View.readAt (Elt F) (Memref.whole cc0_scratch1).view
    (Rect.unit (s := S16x64) ![a.1, b.1] S1x1.size (inb2 (A := 16) (B := 64) a.1 b.1 a.2 b.2)).toLoadRect
    (View.write (Elt F) (Memref.whole cc0_scratch1).view s1 (ReadAs.same.apply (View.read (Elt F) (Memref.whole main_arg3).view fs)) Finset.univ)
    (Shape.Idx.first (s := S1x1) (by decide))

/-- Slot `k` of the staged x as loaded. -/
def xL (k : Fin 8) : Vec F S1x512x256 .bf16 :=
  View.readAt (Elt F) (Memref.whole cc0_scratch2).view
    (Rect.unit (s := S8x512x256) ![k.1, 0, 0] S1x512x256.size (inb3 (N := 8) (A := 512) (B := 256) k.2 0 (by omega) le_rfl)).toLoadRect
    (slots (Memref.whole cc0_scratch2) squeezes_S1x512x256_S512x256 s2
      (fun i => ReadAs.same.apply (View.read (Elt F) ((Memref.whole main_v0).slice
        (Rect.unit (s := S512x2048) ![0, 256 * i.1] S512x256.size (xin i)) (fun _ => rfl)).view fx))
      8 le_rfl)

/-- Slot `k` of the staged first 512 weight columns as loaded. -/
def w0L (k : Fin 8) : Vec F S1x256x512 .fp8e4m3 :=
  View.readAt (Elt F) (Memref.whole cc0_scratch3).view
    (Rect.unit (s := S8x256x512) ![k.1, 0, 0] S1x256x512.size (inb3 (N := 8) (A := 256) (B := 512) k.2 0 (by omega) le_rfl)).toLoadRect
    (slots (Memref.whole cc0_scratch3) squeezes_S1x256x512_S256x512 s3
      (fun i => ReadAs.same.apply (View.read (Elt F) ((Memref.whole main_arg2).slice
        (Rect.unit (s := S2048x8192) ![256 * i.1, 0] S256x512.size (w0in i)) (fun _ => rfl)).view fw))
      8 le_rfl)

/-- Rows `256 k` and on of slot `q` of the staged other weight columns as loaded. -/
def wL (q : Fin 15) (k : Fin 8) : Vec F S1x256x512 .fp8e4m3 :=
  View.readAt (Elt F) (Memref.whole cc0_scratch4).view
    (Rect.unit (s := S15x2048x512) ![q.1, 256 * k.1, 0] S1x256x512.size (inb3 (N := 15) (A := 2048) (B := 512) q.2 (256 * k.1) (by omega) le_rfl)).toLoadRect
    (slots (Memref.whole cc0_scratch4) squeezes_S1x2048x512_S2048x512 s4
      (fun i => ReadAs.same.apply (View.read (Elt F) ((Memref.whole main_arg2).slice
        (Rect.unit (s := S2048x8192) ![0, 512 * i.1 + 512] S2048x512.size (win i)) (fun _ => rfl)).view fw))
      15 le_rfl)

/-- The picked rows of slot `k`. -/
abbrev selL (k : Fin 8) : FVec F S192x256 .f32 := sel (idsL c fi s0) (xL c fx s2 k)

/-! ## The stored pieces -/

/-- The codes stored for group `g` of slot `k`; -/
def codP (k : Fin 8) (g : Fin 2) : View.Piece (Elt F) S192x2048 .fp8e4m3 :=
  ⟨Rect.unit (s := S192x2048) ![0, 256 * k.1 + 128 * g.1] S192x128.size (inb2 (A := 192) (B := 2048) 0 (256 * k.1 + 128 * g.1) (by omega) (by omega)),
    shapeCast S192x128 (cod (half (selL c fi fx s0 s2 k) g)) shapeCasts_S192x128_S192x128⟩

/-- its scales; -/
def sclP (k : Fin 8) (g : Fin 2) : View.Piece (Elt F) S192x16 .f32 :=
  ⟨Rect.unit (s := S192x16) ![0, 2 * k.1 + g.1] S192x1.size (inb2 (A := 192) (B := 16) 0 (2 * k.1 + g.1) (by omega) (by omega)),
    shapeCast S192x1 (scl (half (selL c fi fx s0 s2 k) g)) shapeCasts_S192x1_S192x1⟩

/-- the two groups of a slot as the left factor takes them; -/
def xbP (k : Fin 8) : View.Piece (Elt F) S192x2048 .bf16 :=
  ⟨Rect.unit (s := S192x2048) ![0, 256 * k.1] S192x256.size (inb2 (A := 192) (B := 2048) 0 (256 * k.1) (by omega) (by omega)),
    shapeCast S192x256 (xblk (selL c fi fx s0 s2 k)) shapeCasts_S192x256_S192x256⟩

/-- a chunk of the product. -/
def yP (q : Fin 16) (v : FVec F S192x512 .bf16) : View.Piece (Elt F) S16x192x512 .bf16 :=
  ⟨Rect.unit (s := S16x192x512) ![q.1, 0, 0] S1x192x512.size (inb3 (N := 16) (A := 192) (B := 512) q.2 0 (by omega) le_rfl),
    shapeCast S1x192x512 v shapeCasts_S192x512_S1x192x512⟩

/-- The left factor's columns of slot `k` as loaded back. -/
def xbL (k : Fin 8) : FVec F S192x256 .bf16 :=
  (Memref.whole cc0_scratch5).view.readCov
    [xbP c fi fx s0 s2 7, xbP c fi fx s0 s2 6, xbP c fi fx s0 s2 5, xbP c fi fx s0 s2 4, xbP c fi fx s0 s2 3, xbP c fi fx s0 s2 2,
      xbP c fi fx s0 s2 1, xbP c fi fx s0 s2 0]
    (Rect.unit (s := S192x2048) ![0, 256 * k.1] S192x256.size (inb2 (A := 192) (B := 2048) 0 (256 * k.1) (by omega) (by omega))).toLoadRect

set_option maxHeartbeats 0 in
theorem codes_1 : kernelRun.sl.HS7_1 c fi fx s0 s2 = codP c fi fx s0 s2 0 0 :: [] := rfl
set_option maxHeartbeats 0 in
theorem codes_2 : kernelRun.sl.HS7_2 c fi fx s0 s2 = codP c fi fx s0 s2 0 1 :: kernelRun.sl.HS7_1 c fi fx s0 s2 := rfl
set_option maxHeartbeats 0 in
theorem codes_3 : kernelRun.sl.HS7_3 c fi fx s0 s2 = codP c fi fx s0 s2 1 0 :: kernelRun.sl.HS7_2 c fi fx s0 s2 := rfl
set_option maxHeartbeats 0 in
theorem codes_4 : kernelRun.sl.HS7_4 c fi fx s0 s2 = codP c fi fx s0 s2 1 1 :: kernelRun.sl.HS7_3 c fi fx s0 s2 := rfl
set_option maxHeartbeats 0 in
theorem codes_5 : kernelRun.sl.HS7_5 c fi fx s0 s2 = codP c fi fx s0 s2 2 0 :: kernelRun.sl.HS7_4 c fi fx s0 s2 := rfl
set_option maxHeartbeats 0 in
theorem codes_6 : kernelRun.sl.HS7_6 c fi fx s0 s2 = codP c fi fx s0 s2 2 1 :: kernelRun.sl.HS7_5 c fi fx s0 s2 := rfl
set_option maxHeartbeats 0 in
theorem codes_7 : kernelRun.sl.HS7_7 c fi fx s0 s2 = codP c fi fx s0 s2 3 0 :: kernelRun.sl.HS7_6 c fi fx s0 s2 := rfl
set_option maxHeartbeats 0 in
theorem codes_8 : kernelRun.sl.HS7_8 c fi fx s0 s2 = codP c fi fx s0 s2 3 1 :: kernelRun.sl.HS7_7 c fi fx s0 s2 := rfl
set_option maxHeartbeats 0 in
theorem codes_9 : kernelRun.sl.HS7_9 c fi fx s0 s2 = codP c fi fx s0 s2 4 0 :: kernelRun.sl.HS7_8 c fi fx s0 s2 := rfl
set_option maxHeartbeats 0 in
theorem codes_10 : kernelRun.sl.HS7_10 c fi fx s0 s2 = codP c fi fx s0 s2 4 1 :: kernelRun.sl.HS7_9 c fi fx s0 s2 := rfl
set_option maxHeartbeats 0 in
theorem codes_11 : kernelRun.sl.HS7_11 c fi fx s0 s2 = codP c fi fx s0 s2 5 0 :: kernelRun.sl.HS7_10 c fi fx s0 s2 := rfl
set_option maxHeartbeats 0 in
theorem codes_12 : kernelRun.sl.HS7_12 c fi fx s0 s2 = codP c fi fx s0 s2 5 1 :: kernelRun.sl.HS7_11 c fi fx s0 s2 := rfl
set_option maxHeartbeats 0 in
theorem codes_13 : kernelRun.sl.HS7_13 c fi fx s0 s2 = codP c fi fx s0 s2 6 0 :: kernelRun.sl.HS7_12 c fi fx s0 s2 := rfl
set_option maxHeartbeats 0 in
theorem codes_14 : kernelRun.sl.HS7_14 c fi fx s0 s2 = codP c fi fx s0 s2 6 1 :: kernelRun.sl.HS7_13 c fi fx s0 s2 := rfl
set_option maxHeartbeats 0 in
theorem codes_15 : kernelRun.sl.HS7_15 c fi fx s0 s2 = codP c fi fx s0 s2 7 0 :: kernelRun.sl.HS7_14 c fi fx s0 s2 := rfl
set_option maxHeartbeats 0 in
theorem codes_16 : kernelRun.sl.HS7_16 c fi fx s0 s2 = codP c fi fx s0 s2 7 1 :: kernelRun.sl.HS7_15 c fi fx s0 s2 := rfl
theorem scales_1 : kernelRun.sl.HS8_1 c fi fx s0 s2 = sclP c fi fx s0 s2 0 0 :: [] := rfl
theorem scales_2 : kernelRun.sl.HS8_2 c fi fx s0 s2 = sclP c fi fx s0 s2 0 1 :: kernelRun.sl.HS8_1 c fi fx s0 s2 := rfl
theorem scales_3 : kernelRun.sl.HS8_3 c fi fx s0 s2 = sclP c fi fx s0 s2 1 0 :: kernelRun.sl.HS8_2 c fi fx s0 s2 := rfl
theorem scales_4 : kernelRun.sl.HS8_4 c fi fx s0 s2 = sclP c fi fx s0 s2 1 1 :: kernelRun.sl.HS8_3 c fi fx s0 s2 := rfl
theorem scales_5 : kernelRun.sl.HS8_5 c fi fx s0 s2 = sclP c fi fx s0 s2 2 0 :: kernelRun.sl.HS8_4 c fi fx s0 s2 := rfl
theorem scales_6 : kernelRun.sl.HS8_6 c fi fx s0 s2 = sclP c fi fx s0 s2 2 1 :: kernelRun.sl.HS8_5 c fi fx s0 s2 := rfl
theorem scales_7 : kernelRun.sl.HS8_7 c fi fx s0 s2 = sclP c fi fx s0 s2 3 0 :: kernelRun.sl.HS8_6 c fi fx s0 s2 := rfl
theorem scales_8 : kernelRun.sl.HS8_8 c fi fx s0 s2 = sclP c fi fx s0 s2 3 1 :: kernelRun.sl.HS8_7 c fi fx s0 s2 := rfl
theorem scales_9 : kernelRun.sl.HS8_9 c fi fx s0 s2 = sclP c fi fx s0 s2 4 0 :: kernelRun.sl.HS8_8 c fi fx s0 s2 := rfl
theorem scales_10 : kernelRun.sl.HS8_10 c fi fx s0 s2 = sclP c fi fx s0 s2 4 1 :: kernelRun.sl.HS8_9 c fi fx s0 s2 := rfl
theorem scales_11 : kernelRun.sl.HS8_11 c fi fx s0 s2 = sclP c fi fx s0 s2 5 0 :: kernelRun.sl.HS8_10 c fi fx s0 s2 := rfl
theorem scales_12 : kernelRun.sl.HS8_12 c fi fx s0 s2 = sclP c fi fx s0 s2 5 1 :: kernelRun.sl.HS8_11 c fi fx s0 s2 := rfl
theorem scales_13 : kernelRun.sl.HS8_13 c fi fx s0 s2 = sclP c fi fx s0 s2 6 0 :: kernelRun.sl.HS8_12 c fi fx s0 s2 := rfl
theorem scales_14 : kernelRun.sl.HS8_14 c fi fx s0 s2 = sclP c fi fx s0 s2 6 1 :: kernelRun.sl.HS8_13 c fi fx s0 s2 := rfl
theorem scales_15 : kernelRun.sl.HS8_15 c fi fx s0 s2 = sclP c fi fx s0 s2 7 0 :: kernelRun.sl.HS8_14 c fi fx s0 s2 := rfl
theorem scales_16 : kernelRun.sl.HS8_16 c fi fx s0 s2 = sclP c fi fx s0 s2 7 1 :: kernelRun.sl.HS8_15 c fi fx s0 s2 := rfl
theorem xb_1 : kernelRun.sl.HS5_1 c fi fx s0 s2 = xbP c fi fx s0 s2 0 :: [] := rfl
theorem xb_2 : kernelRun.sl.HS5_2 c fi fx s0 s2 = xbP c fi fx s0 s2 1 :: kernelRun.sl.HS5_1 c fi fx s0 s2 := rfl
theorem xb_3 : kernelRun.sl.HS5_3 c fi fx s0 s2 = xbP c fi fx s0 s2 2 :: kernelRun.sl.HS5_2 c fi fx s0 s2 := rfl
theorem xb_4 : kernelRun.sl.HS5_4 c fi fx s0 s2 = xbP c fi fx s0 s2 3 :: kernelRun.sl.HS5_3 c fi fx s0 s2 := rfl
theorem xb_5 : kernelRun.sl.HS5_5 c fi fx s0 s2 = xbP c fi fx s0 s2 4 :: kernelRun.sl.HS5_4 c fi fx s0 s2 := rfl
theorem xb_6 : kernelRun.sl.HS5_6 c fi fx s0 s2 = xbP c fi fx s0 s2 5 :: kernelRun.sl.HS5_5 c fi fx s0 s2 := rfl
theorem xb_7 : kernelRun.sl.HS5_7 c fi fx s0 s2 = xbP c fi fx s0 s2 6 :: kernelRun.sl.HS5_6 c fi fx s0 s2 := rfl
theorem xb_8 : kernelRun.sl.HS5_8 c fi fx s0 s2 = xbP c fi fx s0 s2 7 :: kernelRun.sl.HS5_7 c fi fx s0 s2 := rfl

end Cert.KernelIdeal.Hand

end
-- ==== Proof.Quant.lean ====
/-
  The two ways of quantising a group of 128 with a power of two agree: the one that counts powers of two into an exponent field
  and reads the field back as a number, and the one that takes the floor of a logarithm and a power of two.
-/
module

public import Idealize.ShloMosaic.PureOps.Ideal
public import Idealize.ShloMosaic.Lib.WordSum
public import Mathlib.Analysis.SpecialFunctions.Log.Basic
public import Mathlib.Analysis.SpecialFunctions.Pow.Real
public import Mathlib.Data.BitVec

@[expose] public section

noncomputable section

namespace Cert.Quant

open Idealize.ShloMosaic

/-- The number an f32 pattern denotes. -/
abbrev lit (b : BitVec 32) : EReal := Ideal.ofBits .f32 b

/-- A greatest magnitude over 448. -/
def top (a : EReal) : EReal := a * lit 0x3B124925#32

/-- How many of 2^-126, …, 2^127, ∞ are at most `t`. -/
def count (t : EReal) : BitVec 32 :=
  ∑ k : Fin 255, (Ideal.cmp .oge t (lit ((BitVec.ofNat 32 k.val + 1#32) <<< (23#32)))).setWidth 32

/-- That count as an exponent field. -/
def field (t : EReal) : BitVec 32 := count t <<< (23#32)

/-- The field used: that of 1/2 where it is 0 or full. -/
def expo (t : EReal) : BitVec 32 :=
  Scalar.select (IntOp.cmpi .eq (field t) 0#32 ||| IntOp.cmpi .eq (field t) 2139095040#32) 1056964608#32 (field t)

/-- The scale of a group of greatest magnitude `a`, by its exponent field; -/
def kscale (a : EReal) : EReal := lit (expo (top a) + 8388608#32)

/-- its inverse. -/
def kinv (a : EReal) : EReal := lit (2122317824#32 - expo (top a))

/-- What the logarithm is taken of: nothing below the least normal number. -/
def flushed (a : EReal) : EReal := Scalar.select (Ideal.cmp .olt (top a) (lit 0x00800000#32)) (lit 0#32) (top a)

/-- The exponent of the scale, by a logarithm. -/
def rexp (a : EReal) : EReal :=
  Scalar.select (Ideal.cmp .oeq (flushed a) (lit 0#32)) (lit 0#32)
    (Ideal.liftRound Int.floor (Ideal.div (Ideal.log (flushed a)) (Ideal.log (lit 0x40000000#32))) + lit 0x3F800000#32)

/-- The scale, by a logarithm; -/
def rscale (a : EReal) : EReal := Ideal.exp2 (rexp a)

/-- its inverse. -/
def rinv (a : EReal) : EReal := Ideal.exp2 (lit 0#32 - rexp a)

/-! ## The patterns -/

theorem lit_eq (b : BitVec 32) : lit b = Ideal.ieee 8 23 b := rfl

theorem lit_pow (E : ℕ) (h1 : 1 ≤ E) (h2 : E ≤ 254) : lit (BitVec.ofNat 32 E <<< (23#32)) = (((2 : ℝ) ^ ((E : ℤ) - 127) : ℝ) : EReal) := by
  have hn : (BitVec.ofNat 32 E <<< (23#32)).toNat = E * 2 ^ 23 := by
    rw [BitVec.shiftLeft_eq', BitVec.toNat_shiftLeft, BitVec.toNat_ofNat, Nat.shiftLeft_eq]
    norm_num
    omega
  have e1 : (BitVec.extractLsb' 31 1 (BitVec.ofNat 32 E <<< (23#32))) = 0#1 := by
    apply BitVec.eq_of_toNat_eq
    rw [BitVec.extractLsb'_toNat, hn, Nat.shiftRight_eq_div_pow]
    show E * 2 ^ 23 / 2 ^ 31 % 2 ^ 1 = 0
    omega
  have e2 : (BitVec.extractLsb' 23 8 (BitVec.ofNat 32 E <<< (23#32))).toNat = E := by
    rw [BitVec.extractLsb'_toNat, hn, Nat.shiftRight_eq_div_pow]
    omega
  have e3 : (BitVec.extractLsb' 0 23 (BitVec.ofNat 32 E <<< (23#32))).toNat = 0 := by
    rw [BitVec.extractLsb'_toNat, hn, Nat.shiftRight_eq_div_pow]
    omega
  rw [lit_eq]
  generalize BitVec.ofNat 32 E <<< (23#32) = b at e1 e2 e3 ⊢
  unfold Ideal.ieee
  simp only [show 8 + 23 = 31 from rfl, e1, e2, e3]
  rw [if_neg (by omega), if_neg (by omega)]
  refine congrArg Real.toEReal ?_
  rw [if_neg (by decide), one_mul]
  push_cast
  rw [show (8388608 : ℝ) = (2 : ℝ) ^ (23 : ℤ) by norm_num, ← zpow_add₀ two_ne_zero]
  refine congrArg ((2 : ℝ) ^ ·) ?_
  ring

theorem lit_zero : lit 0#32 = 0 := by
  simp [lit, Ideal.ofBits, Ideal.ieee]

theorem lit_one : lit 0x3F800000#32 = ((1 : ℝ) : EReal) := by
  have := lit_pow 127 (by norm_num) (by norm_num)
  simpa using this

theorem lit_two : lit 0x40000000#32 = ((2 : ℝ) : EReal) := by
  have := lit_pow 128 (by norm_num) (by norm_num)
  rw [show (BitVec.ofNat 32 128 <<< (23#32)) = 0x40000000#32 from by decide] at this
  rw [this]; norm_num

theorem lit_min : lit 0x00800000#32 = (((2 : ℝ) ^ (-126 : ℤ) : ℝ) : EReal) := by
  have := lit_pow 1 (by norm_num) (by norm_num)
  rw [show (BitVec.ofNat 32 1 <<< (23#32)) = 0x00800000#32 from by decide] at this
  rw [this]; norm_num

theorem lit_full : lit (BitVec.ofNat 32 255 <<< (23#32)) = ⊤ := by
  rw [show (BitVec.ofNat 32 255 <<< (23#32)) = 0x7F800000#32 from by decide]
  simp [lit, Ideal.ofBits, Ideal.ieee]

theorem lit_448th : ∃ r : ℝ, lit 0x3B124925#32 = (r : EReal) ∧ 0 < r ∧ r ≤ 1 / 4 := by
  refine ⟨_, by rw [lit_eq]; unfold Ideal.ieee; simp only [show BitVec.extractLsb' (8 + 23) 1 0x3B124925#32 = 0#1 from by decide,
    show (BitVec.extractLsb' 23 8 0x3B124925#32).toNat = 118 from by decide, show (BitVec.extractLsb' 0 23 0x3B124925#32).toNat = 1198373 from by decide]; rfl, ?_, ?_⟩ <;> norm_num

/-! ## The field -/

/-- The field of a number between two powers of two. -/
theorem field_of (t : ℝ) (N : ℕ) (hN : N ≤ 254) (h : ∀ E : ℕ, 1 ≤ E → E ≤ 254 → ((2 : ℝ) ^ ((E : ℤ) - 127) ≤ t ↔ E ≤ N)) :
    field (t : EReal) = BitVec.ofNat 32 N <<< (23#32) := by
  have hc : ∀ k : Fin 255, (Ideal.cmp .oge (t : EReal) (lit ((BitVec.ofNat 32 k.val + 1#32) <<< (23#32)))).setWidth 32
      = if k.val < N then (1 : BitVec 32) else 0 := by
    intro k
    have he : BitVec.ofNat 32 k.val + 1#32 = BitVec.ofNat 32 (k.val + 1) := by
      rw [BitVec.ofNat_add]
    rw [he]
    have hk : (lit (BitVec.ofNat 32 (k.val + 1) <<< (23#32)) ≤ (t : EReal)) ↔ k.val < N := by
      by_cases h254 : k.val + 1 ≤ 254
      · rw [lit_pow (k.val + 1) (by omega) h254, EReal.coe_le_coe_iff, h _ (by omega) h254]
        omega
      · have : k.val + 1 = 255 := by have := k.isLt; omega
        rw [this, lit_full]
        constructor
        · intro h'; exact absurd (top_le_iff.mp h') (EReal.coe_ne_top t)
        · intro h'; omega
    show (BitVec.ofBool (decide _)).setWidth 32 = _
    by_cases hh : k.val < N
    · rw [if_pos hh, decide_eq_true (hk.mpr hh)]; rfl
    · rw [if_neg hh, decide_eq_false (fun h' => hh (hk.mp h'))]; rfl
  unfold field count
  rw [Finset.sum_congr rfl fun k _ => hc k, Finset.sum_boole]
  have hcard : (Finset.univ.filter fun k : Fin 255 => k.val < N).card = N := by
    rw [Fin.card_filter_val_lt]; omega
  rw [hcard]
  rfl

theorem cmpi_eq_false {x y : BitVec 32} (h : x ≠ y) : IntOp.cmpi .eq x y = 0#1 := by
  show BitVec.ofBool (x == y) = _
  rw [beq_false_of_ne h]; rfl

theorem shift_toNat (N : ℕ) (h : N ≤ 255) : (BitVec.ofNat 32 N <<< (23#32)).toNat = N * 2 ^ 23 := by
  rw [BitVec.shiftLeft_eq', BitVec.toNat_shiftLeft, BitVec.toNat_ofNat, Nat.shiftLeft_eq]
  norm_num
  omega

theorem expo_of_zero (t : EReal) (h : field t = 0#32) : expo t = BitVec.ofNat 32 126 <<< (23#32) := by
  unfold expo
  rw [h]
  decide

theorem expo_of_pos (t : EReal) (N : ℕ) (h1 : 1 ≤ N) (h2 : N ≤ 254) (h : field t = BitVec.ofNat 32 N <<< (23#32)) :
    expo t = BitVec.ofNat 32 N <<< (23#32) := by
  unfold expo
  rw [h, cmpi_eq_false, cmpi_eq_false]
  · rfl
  · intro e
    have := congrArg BitVec.toNat e
    rw [shift_toNat N (by omega)] at this
    simp at this
    omega
  · intro e
    have := congrArg BitVec.toNat e
    rw [shift_toNat N (by omega)] at this
    simp at this
    omega

theorem expo_add (N : ℕ) (h : N ≤ 254) : BitVec.ofNat 32 N <<< (23#32) + 8388608#32 = BitVec.ofNat 32 (N + 1) <<< (23#32) := by
  apply BitVec.eq_of_toNat_eq
  rw [BitVec.toNat_add, shift_toNat N (by omega), shift_toNat (N + 1) (by omega)]
  norm_num
  omega

theorem expo_sub (N : ℕ) (h : N ≤ 253) : 2122317824#32 - BitVec.ofNat 32 N <<< (23#32) = BitVec.ofNat 32 (253 - N) <<< (23#32) := by
  apply BitVec.eq_of_toNat_eq
  rw [BitVec.toNat_sub, shift_toNat N (by omega), shift_toNat (253 - N) (by omega)]
  norm_num
  omega

/-! ## The two quantisers -/

/-- At a number of binary exponent `n` both scales are 2^(n+1), both inverses 2^-(n+1); below the least normal number all are 1. -/
theorem agree (a : ℝ) (h0 : 0 ≤ a) (h1 : a < (2 : ℝ) ^ (128 : ℤ)) : kscale a = rscale a ∧ kinv a = rinv a := by
  obtain ⟨r, hr, hr0, hr1⟩ := lit_448th
  have htop : top (a : EReal) = ((a * r : ℝ) : EReal) := by
    unfold top; rw [hr, EReal.coe_mul]
  set t : ℝ := a * r with ht
  have ht0 : 0 ≤ t := mul_nonneg h0 hr0.le
  have ht1 : t < (2 : ℝ) ^ (126 : ℤ) := by
    have h2 : t ≤ a * (1 / 4) := mul_le_mul_of_nonneg_left hr1 h0
    norm_num at h1 h2 ⊢
    linarith
  by_cases hs : t < (2 : ℝ) ^ (-126 : ℤ)
  · have hf : flushed (a : EReal) = 0 := by
      unfold flushed
      rw [htop, lit_min, lit_zero]
      show Scalar.select (BitVec.ofBool (decide _)) _ _ = _
      rw [decide_eq_true (EReal.coe_lt_coe_iff.mpr hs)]; rfl
    have he : rexp (a : EReal) = 0 := by
      unfold rexp
      rw [hf, lit_zero]
      show Scalar.select (BitVec.ofBool (decide _)) _ _ = _
      rw [decide_eq_true rfl]; rfl
    have hfield : field (t : EReal) = 0#32 := by
      rw [field_of t 0 (by norm_num)]
      · decide
      · intro E hE1 hE2
        constructor
        · intro h
          exfalso
          have : (2 : ℝ) ^ (-126 : ℤ) ≤ (2 : ℝ) ^ ((E : ℤ) - 127) := zpow_le_zpow_right₀ (by norm_num) (by omega)
          linarith
        · intro h; omega
    have hx := expo_of_zero _ hfield
    unfold kscale kinv rscale rinv
    rw [htop, hx, he, expo_add _ (by norm_num), expo_sub _ (by norm_num), lit_pow _ (by norm_num) (by norm_num),
      lit_zero, sub_zero, ← EReal.coe_zero, Ideal.exp2_coe]
    norm_num
  · push Not at hs
    have htp : 0 < t := lt_of_lt_of_le (by positivity) hs
    have hl2 : 0 < Real.log 2 := Real.log_pos (by norm_num)
    set n : ℤ := ⌊Real.log t * (1 / Real.log 2)⌋ with hn
    have hlo : (2 : ℝ) ^ n ≤ t := by
      rw [← Real.log_le_log_iff (by positivity) htp, Real.log_zpow]
      have := Int.floor_le (Real.log t * (1 / Real.log 2))
      rw [mul_one_div, le_div_iff₀ hl2] at this
      rwa [hn, mul_one_div]
    have hhi : t < (2 : ℝ) ^ (n + 1) := by
      rw [← Real.log_lt_log_iff htp (by positivity), Real.log_zpow]
      have := Int.lt_floor_add_one (Real.log t * (1 / Real.log 2))
      rw [mul_one_div, div_lt_iff₀ hl2] at this
      push_cast
      rwa [hn, mul_one_div]
    have hn1 : -126 ≤ n := by
      by_contra hc
      have : (2 : ℝ) ^ (n + 1) ≤ (2 : ℝ) ^ (-126 : ℤ) := zpow_le_zpow_right₀ (by norm_num) (by omega)
      linarith
    have hn2 : n < 126 := by
      by_contra hc
      have : (2 : ℝ) ^ (126 : ℤ) ≤ (2 : ℝ) ^ n := zpow_le_zpow_right₀ (by norm_num) (by omega)
      linarith
    obtain ⟨N, hN⟩ : ∃ N : ℕ, (N : ℤ) = n + 127 := ⟨(n + 127).toNat, by omega⟩
    have hfield : field (t : EReal) = BitVec.ofNat 32 N <<< (23#32) := by
      apply field_of t N (by omega)
      intro E hE1 hE2
      constructor
      · intro h
        by_contra hc
        have : (2 : ℝ) ^ (n + 1) ≤ (2 : ℝ) ^ ((E : ℤ) - 127) := zpow_le_zpow_right₀ (by norm_num) (by omega)
        linarith
      · intro h
        exact le_trans (zpow_le_zpow_right₀ (by norm_num) (by omega)) hlo
    have hx := expo_of_pos _ N (by omega) (by omega) hfield
    have hf : flushed (a : EReal) = (t : EReal) := by
      unfold flushed
      rw [htop, lit_min]
      show Scalar.select (BitVec.ofBool (decide _)) _ _ = _
      rw [decide_eq_false (by rw [EReal.coe_lt_coe_iff]; exact not_lt.mpr hs)]; rfl
    have he : rexp (a : EReal) = ((n + 1 : ℤ) : ℝ) := by
      unfold rexp
      rw [hf, lit_zero, lit_two, lit_one]
      show Scalar.select (BitVec.ofBool (decide _)) _ _ = _
      rw [decide_eq_false (by rw [← EReal.coe_zero, EReal.coe_eq_coe_iff]; exact htp.ne')]
      show Ideal.liftRound Int.floor _ + _ = _
      rw [Ideal.log_coe, Ideal.log_coe, if_neg (not_le.mpr htp), if_neg (by norm_num), Ideal.div_coe (Real.log_pos (by norm_num)).ne',
        ← EReal.coe_mul, Ideal.liftRound_coe, ← EReal.coe_add]
      congr 1
      push_cast
      rw [hn]
    unfold kscale kinv rscale rinv
    rw [htop, hx, he, expo_add _ (by omega), expo_sub _ (by omega), lit_pow _ (by omega) (by omega),
      lit_pow _ (by omega) (by omega), lit_zero, zero_sub, ← EReal.coe_neg, Ideal.exp2_coe, Ideal.exp2_coe]
    constructor
    · congr 1
      show _ = (2 : ℝ) ^ (((n + 1 : ℤ) : ℝ))
      rw [Real.rpow_intCast]
      congr 1
      push_cast
      omega
    · congr 1
      show _ = (2 : ℝ) ^ (-((n + 1 : ℤ) : ℝ))
      rw [← Int.cast_neg, Real.rpow_intCast]
      congr 1
      omega

/-! ## A group's greatest magnitude -/

/-- The greatest magnitude of a group. -/
def gmax {n : ℕ} (v : Fin n → EReal) : EReal := Finset.univ.fold max (lit 0xFF800000#32) fun j => max (v j) (-(v j))

theorem gmax_congr {n : ℕ} {v w : Fin n → EReal} (h : ∀ j, v j = w j) : gmax v = gmax w := by
  rw [show v = w from funext h]

/-- The greatest bf16 number. -/
theorem bf16_max : ∃ b : ℝ, Ideal.ofBits .bf16 0x7F7F#16 = (b : EReal) ∧ b < (2 : ℝ) ^ (128 : ℤ) := by
  refine ⟨_, by rw [show Ideal.ofBits .bf16 0x7F7F#16 = Ideal.ieee 8 7 (0x7F7F#16 : BitVec 16) from rfl]; unfold Ideal.ieee; simp only [show BitVec.extractLsb' (8 + 7) 1 0x7F7F#16 = 0#1 from by decide,
    show (BitVec.extractLsb' 7 8 0x7F7F#16).toNat = 254 from by decide, show (BitVec.extractLsb' 0 7 0x7F7F#16).toNat = 127 from by decide]; rfl, ?_⟩
  norm_num

theorem lit_bot : lit 0xFF800000#32 = ⊥ := by
  simp [lit, Ideal.ofBits, Ideal.ieee]

/-- A group of finite numbers has a finite, nonnegative greatest magnitude, so both quantisers agree on it. -/
theorem agree_gmax {n : ℕ} (hn : 0 < n) (v : Fin n → EReal) (h : ∀ j, max (v j) (-(v j)) ≤ Ideal.ofBits .bf16 0x7F7F#16) :
    kscale (gmax v) = rscale (gmax v) ∧ kinv (gmax v) = rinv (gmax v) := by
  obtain ⟨b, hb, hb1⟩ := bf16_max
  rw [hb] at h
  have hle : gmax v ≤ (b : EReal) := (Finset.fold_max_le _).mpr ⟨by rw [lit_bot]; exact bot_le, fun j _ => h j⟩
  have hge : 0 ≤ gmax v := by
    refine (Finset.le_fold_max _).mpr (.inr ⟨⟨0, hn⟩, Finset.mem_univ _, ?_⟩)
    rcases le_total 0 (v ⟨0, hn⟩) with h0 | h0
    · exact le_max_of_le_left h0
    · exact le_max_of_le_right (EReal.neg_nonneg.mpr h0)
  obtain ⟨a, ha⟩ : ∃ a : ℝ, gmax v = (a : EReal) :=
    ⟨(gmax v).toReal, (EReal.coe_toReal (ne_top_of_le_ne_top (EReal.coe_ne_top b) hle) (ne_bot_of_le_ne_bot EReal.zero_ne_bot hge)).symm⟩
  rw [ha] at hle hge ⊢
  exact agree a (EReal.coe_nonneg.mp hge) (lt_of_le_of_lt (EReal.coe_le_coe_iff.mp hle) hb1)

end Cert.Quant

end
-- ==== Proof.Point.lean ====
/-
  The kernel's functions over the extended reals, entry by entry.
-/
module

public import proofs.«01_k».proof.Proof.Step
public import proofs.«01_k».proof.Proof.Quant
public import Idealize.ShloMosaic.PureOps.Ideal.Laws
public import Idealize.ShloMosaic.Lib.MatmulPlain
public import Idealize.ShloMosaic.Lib.ValueLayout
public import Idealize.ShloMosaic.Lib.Pipeline.Value

@[expose] public section

set_option maxRecDepth 16384

noncomputable section

namespace Cert.KernelIdeal.Hand

open Cert.KernelIdeal Cert.KernelIdeal.Gen Cert.Quant
open Idealize.ShloMosaic Idealize.ShloMosaic.ValueIdx

/-! ## The one-hot rows -/

/-- The comparison of the indices with 128 t, …, 128 t + 127, as numbers. -/
def hot (ids : Vec Ideal S1x192 .i32) (t : BitVec 32) : FVec Ideal S192x128 .f32 :=
  sitofp .f32 (extui 32 (cmpi .eq (transpose S192x128 [1, 0] (broadcastTo S128x192 (shapeCast S1x192 ids shapeCasts_S1x192_S1x192) broadcasts_S1x192_S128x192)
    transposes_S128x192_p1_0_S192x128) (addi (iota .tc S192x128 32 [1] iota_S192x128_d1_w32) (broadcast S192x128 t))) natLt_1_32)

theorem hot_apply (ids : Vec Ideal S1x192 .i32) (t : BitVec 32) (r : Fin 192) (i : Fin 128) :
    hot ids t (ix2 r i) = if ids (ix2 0 r) = BitVec.ofNat 32 i.val + t then 1 else 0 := by
  have h1 : transpose S192x128 [1, 0] (broadcastTo S128x192 (shapeCast S1x192 ids shapeCasts_S1x192_S1x192) broadcasts_S1x192_S128x192)
      transposes_S128x192_p1_0_S192x128 (ix2 r i) = ids (ix2 0 r) := by
    refine (transpose_ix2_apply _ transposes_S128x192_p1_0_S192x128 r i).trans ?_
    refine (broadcastTo_1b_ab_apply _ broadcasts_S1x192_S128x192 i r).trans ?_
    rw [shapeCast_self]
  have h2 : iota .tc S192x128 32 [1] iota_S192x128_d1_w32 (ix2 r i) = BitVec.ofNat 32 i.val := by
    show BitVec.ofNat 32 (0 * 128 + i.val) = _
    rw [Nat.zero_mul, Nat.zero_add]
  show (((((IntOp.cmpi .eq (transpose S192x128 [1, 0] (broadcastTo S128x192 (shapeCast S1x192 ids shapeCasts_S1x192_S1x192) broadcasts_S1x192_S128x192)
      transposes_S128x192_p1_0_S192x128 (ix2 r i)) (iota .tc S192x128 32 [1] iota_S192x128_d1_w32 (ix2 r i) + t)).setWidth 32).toInt : ℝ)) : EReal) = _
  rw [h1, h2]
  by_cases h : ids (ix2 0 r) = BitVec.ofNat 32 i.val + t
  · rw [if_pos h, h, show IntOp.cmpi .eq (BitVec.ofNat 32 i.val + t) (BitVec.ofNat 32 i.val + t) = 1#1 by simp [IntOp.cmpi],
      show ((1#1).setWidth 32).toInt = 1 by decide]
    simp
  · rw [if_neg h, cmpi_eq_false h, show ((0#1).setWidth 32).toInt = 0 by decide]
    simp

theorem onehot_apply (ids : Vec Ideal S1x192 .i32) (r : Fin 192) (k : Fin 512) :
    k0_pay1 (F := Ideal) ids (ix2 r k) = if ids (ix2 0 r) = BitVec.ofNat 32 k.val then 1 else 0 := by
  show concatenate S192x512 1 [⟨S192x128, hot ids 0#32⟩, ⟨S192x128, hot ids 128#32⟩, ⟨S192x128, hot ids 256#32⟩, ⟨S192x128, hot ids 384#32⟩]
    concatenates_S192x128_S192x128_S192x128_S192x128_S192x512_d1 (ix2 r k) = _
  have key : ∀ (n : ℕ) (hn : n < 4) (t : BitVec 32) (i : Fin 128) (hk : k.val = 128 * n + i.val) (ht : BitVec.ofNat 32 i.val + t = BitVec.ofNat 32 k.val)
      (hx : ([⟨S192x128, hot ids 0#32⟩, ⟨S192x128, hot ids 128#32⟩, ⟨S192x128, hot ids 256#32⟩, ⟨S192x128, hot ids 384#32⟩] : List ((s : Shape) × (s.Idx → EReal)))[n]
        = ⟨S192x128, hot ids t⟩)
      (hp : (((([⟨S192x128, hot ids 0#32⟩, ⟨S192x128, hot ids 128#32⟩, ⟨S192x128, hot ids 256#32⟩, ⟨S192x128, hot ids 384#32⟩] :
        List ((s : Shape) × (s.Idx → EReal))).take n).map (·.1)).map fun s => if h : s.rank = S192x512.rank then s.size ((1 : Fin S192x512.rank).cast h.symm) else 0).sum = 128 * n),
      concatenate S192x512 1 [⟨S192x128, hot ids 0#32⟩, ⟨S192x128, hot ids 128#32⟩, ⟨S192x128, hot ids 256#32⟩, ⟨S192x128, hot ids 384#32⟩]
        concatenates_S192x128_S192x128_S192x128_S192x128_S192x512_d1 (ix2 r k) = if ids (ix2 0 r) = BitVec.ofNat 32 k.val then 1 else 0 := by
    intro n hn t i hk ht hx hp
    refine (concatenate_apply_piece 1 [⟨S192x128, hot ids 0#32⟩, ⟨S192x128, hot ids 128#32⟩, ⟨S192x128, hot ids 256#32⟩, ⟨S192x128, hot ids 384#32⟩]
      concatenates_S192x128_S192x128_S192x128_S192x128_S192x512_d1 (ix2 r k) n hn S192x128 (hot ids t) hx rfl (128 * n) hp (ix2 r i) ?_ hk.symm).trans ?_
    · intro b hb
      match b with
      | ⟨0, _⟩ => rfl
      | ⟨1, _⟩ => exact absurd rfl hb
    · rw [hot_apply, ht]
  have hk := k.isLt
  by_cases h1 : k.val < 128
  · exact key 0 (by decide) 0#32 ⟨k.val, h1⟩ (by simp) (by simp) rfl rfl
  by_cases h2 : k.val < 256
  · exact key 1 (by decide) 128#32 ⟨k.val - 128, by omega⟩ (by simp; omega)
      (by rw [← BitVec.ofNat_add]; congr 1; simp; omega) rfl rfl
  by_cases h3 : k.val < 384
  · exact key 2 (by decide) 256#32 ⟨k.val - 256, by omega⟩ (by simp; omega)
      (by rw [← BitVec.ofNat_add]; congr 1; simp; omega) rfl rfl
  · exact key 3 (by decide) 384#32 ⟨k.val - 384, by omega⟩ (by simp; omega)
      (by rw [← BitVec.ofNat_add]; congr 1; simp; omega) rfl rfl

/-- The picked rows: row `r` is the row the index names. -/
theorem sel_apply (ids : Vec Ideal S1x192 .i32) (x : Vec Ideal S1x512x256 .bf16) (r : Fin 192) (j : Fin 256) (k : Fin 512)
    (hk : ids (ix2 0 r) = BitVec.ofNat 32 k.val) : sel (F := Ideal) ids x (ix2 r j) = x (ix3 (0 : Fin 1) k j) := by
  refine (Ideal.matmul_plain_apply (M := 192) (K := 512) (N := 256) none (k0_pay1 (F := Ideal) ids)
    (shapeCast S512x256 x shapeCasts_S1x512x256_S512x256) (constant S192x256 .f32 0x00000000#32) r j).trans ?_
  have h0 : (constant (F := Ideal) S192x256 .f32 0x00000000#32 : FVec Ideal S192x256 .f32) (ix2 r j) = 0 := lit_zero
  rw [h0, zero_add, Finset.sum_eq_single k]
  · rw [onehot_apply, if_pos hk, one_mul]
    exact shapeCast_1ab_ab_apply x shapeCasts_S1x512x256_S512x256 k j
  · intro b _ hb
    rw [onehot_apply, if_neg, zero_mul]
    rw [hk]
    intro h
    have := congrArg BitVec.toNat h
    simp only [BitVec.toNat_ofNat] at this
    have h1 := b.isLt
    have h2 := k.isLt
    exact hb (Fin.ext (by omega))
  · intro h; exact absurd (Finset.mem_univ _) h

/-! ## Entries of pointwise operations -/

theorem lit_at (s : Shape) (b : BitVec 32) (i : s.Idx) : broadcast s (Scalar.ofBits (F := Ideal) .f32 b) i = lit b := rfl
theorem min_at {s : Shape} {φ : FTy} (a b : FVec Ideal s φ) (i : s.Idx) : minimumf a b i = min (a i) (b i) := rfl
theorem max_at {s : Shape} {φ : FTy} (a b : FVec Ideal s φ) (i : s.Idx) : maximumf a b i = max (a i) (b i) := rfl
theorem mul_at {s : Shape} {φ : FTy} (a b : FVec Ideal s φ) (i : s.Idx) : mulf a b i = a i * b i := rfl
theorem narrow_at {s : Shape} {φ : FTy} (ψ : FTy) (a : FVec Ideal s φ) (h : ψ.bits < φ.bits) (i : s.Idx) : (truncf ψ a h : FVec Ideal s ψ) i = a i := rfl
theorem widen_at {s : Shape} {φ : FTy} (ψ : FTy) (a : FVec Ideal s φ) (h : φ.bits < ψ.bits) (i : s.Idx) : (extf ψ a h : FVec Ideal s ψ) i = a i := rfl

/-! ## One group of 128 -/

/-- Row `r` of a group. -/
abbrev row (v : FVec Ideal S192x128 .f32) (r : Fin 192) : Fin 128 → EReal := fun j => v (ix2 r j)

/-- A column set beside itself. -/
theorem column_apply {α : Type} {n : ℕ} (v : S192x1.Idx → α) (h : S192x1.Broadcasts ⟨2, ![192, n]⟩) (r : Fin 192) (j : Fin n) :
    broadcastTo ⟨2, ![192, n]⟩ v h (ix2 r j) = v (ix2 r (0 : Fin 1)) := by
  refine broadcastTo_apply v h (ix2 r j) (ix2 r (0 : Fin 1)) fun a => ?_
  match a with
  | ⟨0, _⟩ => rfl
  | ⟨1, _⟩ => rfl

/-- A list of rows' values as a column. -/
theorem cast_column {α : Type} (v : S192.Idx → α) (r : Fin 192) : shapeCast S192x1 v shapeCasts_S192_S192x1 (ix2 r (0 : Fin 1)) = v (ix1 r) := by
  refine shapeCast_apply v _ _ (ix1 r) ?_
  rw [Shape.rowMajor_val_one, Shape.rowMajor_val_two]
  show r.val = r.val * 1 + 0
  omega

theorem top_apply (v : FVec Ideal S192x128 .f32) (r : Fin 192) : Hand.top v (ix2 r (0 : Fin 1)) = Quant.top (gmax (row v r)) := by
  refine congrArg (· * lit 0x3B124925#32) ((cast_column _ r).trans ((Ideal.multiReduction_maximumf_single (absf v) _ reduces_S192x128_S192 (.inl rfl) rfl (ix1 r)).trans ?_))
  unfold gmax
  refine Finset.fold_congr fun k _ => ?_
  have h : reduces_S192x128_S192.lift (ix1 r) k = ix2 r k := by
    funext b
    match b with
    | ⟨0, _⟩ => rfl
    | ⟨1, _⟩ => rfl
  exact congrArg (fun z : EReal => max z (-z)) (congrArg v h)

/-- A row of words added up. -/
theorem sum_words (x : IVec S192x255 32) (r : Fin 192) :
    multiReductionI .add [1] S192 x 0#32 reduces_S192x255_S192 rfl (ix1 r) = ∑ k : Fin 255, x (ix2 r k) := by
  refine (congrFun (multiReductionI_eq_reduceFold .add x 0#32 reduces_S192x255_S192 rfl) (ix1 r)).trans ?_
  show reduceFold reduces_S192x255_S192 (· + ·) (0#32 : BitVec 32) x (ix1 r) = _
  rw [reduceFold_add_eq_sum, show (0#32 : BitVec 32) = 0 from rfl, zero_add, Shape.Reduces.sum_filter_drop_single]
  refine Finset.sum_congr rfl fun k _ => congrArg x ?_
  funext b
  match b with
  | ⟨0, _⟩ => rfl
  | ⟨1, _⟩ => rfl

theorem field_apply (t : FVec Ideal S192x1 .f32) (r : Fin 192) : Hand.field t (ix2 r (0 : Fin 1)) = Quant.field (t (ix2 r (0 : Fin 1))) := by
  refine congrArg (fun n : BitVec 32 => n <<< (23#32)) ((cast_column _ r).trans ((sum_words _ r).trans ?_))
  unfold Quant.count
  refine Finset.sum_congr rfl fun k _ => ?_
  have h2 : iota .tc S192x255 32 [1] iota_S192x255_d1_w32 (ix2 r k) = BitVec.ofNat 32 k.val := by
    show BitVec.ofNat 32 (0 * 255 + k.val) = _
    rw [Nat.zero_mul, Nat.zero_add]
  show (Ideal.cmp .oge (broadcastTo S192x255 t broadcasts_S192x1_S192x255 (ix2 r k))
    (lit ((iota .tc S192x255 32 [1] iota_S192x255_d1_w32 (ix2 r k) + 1#32) <<< (23#32)))).setWidth 32 = _
  rw [h2, column_apply]

theorem expo_apply (t : FVec Ideal S192x1 .f32) (r : Fin 192) : Hand.expo t (ix2 r (0 : Fin 1)) = Quant.expo (t (ix2 r (0 : Fin 1))) := by
  unfold Quant.expo
  rw [← field_apply]
  rfl

theorem scl_apply (v : FVec Ideal S192x128 .f32) (r : Fin 192) : scl v (ix2 r (0 : Fin 1)) = kscale (gmax (row v r)) := by
  unfold kscale
  rw [← top_apply, ← expo_apply]
  rfl

theorem inv_apply (v : FVec Ideal S192x128 .f32) (r : Fin 192) : Hand.inv v (ix2 r (0 : Fin 1)) = kinv (gmax (row v r)) := by
  unfold kinv
  rw [← top_apply, ← expo_apply]
  rfl

theorem cod_apply (v : FVec Ideal S192x128 .f32) (r : Fin 192) (j : Fin 128) :
    cod v (ix2 r j) = min (lit 0x43E00000#32) (max (lit 0xC3E00000#32) (v (ix2 r j) * kinv (gmax (row v r)))) := by
  rw [← inv_apply, ← column_apply (Hand.inv v) broadcasts_S192x1_S192x128 r j]
  unfold cod
  refine (narrow_at .fp8e4m3 _ bitsLt_fp8e4m3_f32 _).trans ((min_at _ _ _).trans ?_)
  rw [max_at, mul_at]
  rw [lit_at S192x128 0x43E00000#32 (ix2 r j), lit_at S192x128 0xC3E00000#32 (ix2 r j)]

theorem deq_apply (v : FVec Ideal S192x128 .f32) (r : Fin 192) (j : Fin 128) :
    deq v (ix2 r j) = cod v (ix2 r j) * kscale (gmax (row v r)) := by
  have h : (shapeCast S192x1 (scl v) shapeCasts_S192x1_S192x1) = scl v := shapeCast_self _ _
  rw [← scl_apply, ← column_apply (scl v) broadcasts_S192x1_S192x128 r j]
  unfold deq
  rw [mul_at, narrow_at, widen_at, h]

theorem half_apply (v : FVec Ideal S192x256 .f32) (g : Fin 2) (r : Fin 192) (j : Fin 128) :
    half v g (ix2 r j) = v (ix2 r ⟨128 * g.1 + j.1, by omega⟩) := by
  match g with
  | ⟨0, _⟩ => exact slice2_axis1_apply 0 v slices_S192x256_o0_0_S192x128 r j _ rfl
  | ⟨1, _⟩ => exact slice2_axis1_apply 128 v slices_S192x256_o0_128_S192x128 r j _ rfl

theorem xblk_apply (v : FVec Ideal S192x256 .f32) (g : Fin 2) (r : Fin 192) (j : Fin 128) :
    xblk v (ix2 r ⟨128 * g.1 + j.1, by omega⟩) = deq (half v g) (ix2 r j) := by
  match g with
  | ⟨0, _⟩ =>
    refine concatenate_pair_apply_left 1 (deq (half v 0)) (deq (half v 1)) concatenates_S192x128_S192x128_S192x256_d1 _ rfl (ix2 r j) fun b => ?_
    match b with
    | ⟨0, _⟩ => rfl
    | ⟨1, _⟩ => show j.val = 128 * 0 + j.val; omega
  | ⟨1, _⟩ =>
    refine concatenate_pair_apply_right 1 (deq (half v 0)) (deq (half v 1)) concatenates_S192x128_S192x128_S192x256_d1 _ rfl rfl (ix2 r j) (fun b hb => ?_) ?_
    · match b with
      | ⟨0, _⟩ => rfl
      | ⟨1, _⟩ => exact absurd rfl hb
    · show j.val + 128 = 128 * 1 + j.val
      omega

/-! ## A tile of weights -/

theorem wone_apply (b : FVec Ideal S128x128 .fp8e4m3) (s : EReal) (i j : Fin 128) : wone (F := Ideal) b s (ix2 i j) = b (ix2 i j) * s := rfl

theorem wrow_apply (b : Fin 4 → FVec Ideal S128x128 .fp8e4m3) (s : Fin 4 → EReal) (n : Fin 4) (i j : Fin 128) :
    wrow (F := Ideal) b s (ix2 i ⟨128 * n.1 + j.1, by omega⟩) = b n (ix2 i j) * s n := by
  have key : ∀ (n : Fin 4) (hn : n.val < 4) (hx : ([⟨S128x128, wone (F := Ideal) (b 0) (s 0)⟩, ⟨S128x128, wone (F := Ideal) (b 1) (s 1)⟩, ⟨S128x128, wone (F := Ideal) (b 2) (s 2)⟩, ⟨S128x128, wone (F := Ideal) (b 3) (s 3)⟩] :
        List ((s : Shape) × (s.Idx → EReal)))[n.val] = ⟨S128x128, wone (F := Ideal) (b n) (s n)⟩)
      (hp : (((([⟨S128x128, wone (F := Ideal) (b 0) (s 0)⟩, ⟨S128x128, wone (F := Ideal) (b 1) (s 1)⟩, ⟨S128x128, wone (F := Ideal) (b 2) (s 2)⟩, ⟨S128x128, wone (F := Ideal) (b 3) (s 3)⟩] :
        List ((s : Shape) × (s.Idx → EReal))).take n.val).map (·.1)).map fun s => if h : s.rank = S128x512.rank then s.size ((1 : Fin S128x512.rank).cast h.symm) else 0).sum = 128 * n.val),
      wrow (F := Ideal) b s (ix2 i ⟨128 * n.1 + j.1, by omega⟩) = b n (ix2 i j) * s n := by
    intro n hn hx hp
    refine (concatenate_apply_piece 1 [⟨S128x128, wone (F := Ideal) (b 0) (s 0)⟩, ⟨S128x128, wone (F := Ideal) (b 1) (s 1)⟩, ⟨S128x128, wone (F := Ideal) (b 2) (s 2)⟩, ⟨S128x128, wone (F := Ideal) (b 3) (s 3)⟩]
      concatenates_S128x128_S128x128_S128x128_S128x128_S128x512_d1 (ix2 i ⟨128 * n.1 + j.1, by omega⟩) n.val hn S128x128 (wone (F := Ideal) (b n) (s n)) hx rfl (128 * n.val) hp (ix2 i j) ?_ rfl).trans ?_
    · intro c hc
      match c with
      | ⟨0, _⟩ => rfl
      | ⟨1, _⟩ => exact absurd rfl hc
    · rfl
  match n with
  | ⟨0, _⟩ => exact key 0 (by decide) rfl rfl
  | ⟨1, _⟩ => exact key 1 (by decide) rfl rfl
  | ⟨2, _⟩ => exact key 2 (by decide) rfl rfl
  | ⟨3, _⟩ => exact key 3 (by decide) rfl rfl

/-- A 128×128 block of a tile. -/
theorem block_apply {α : Type} (t : S256x512.Idx → α) (o u : ℕ) (h : S256x512.Slices ![o, u] S128x128) (i j : Fin 128) (i' : Fin 256) (j' : Fin 512)
    (hi : i'.val = o + i.val) (hj : j'.val = u + j.val) : extractStridedSlice S128x128 ![o, u] t h (ix2 i j) = t (ix2 i' j') := by
  refine extractStridedSlice_apply _ _ _ _ _ fun a => ?_
  match a with
  | ⟨0, _⟩ => exact hi
  | ⟨1, _⟩ => exact hj

theorem wtile_apply (w : Vec Ideal S1x256x512 .fp8e4m3) (s : Fin 2 → Fin 4 → EReal) (g : Fin 2) (n : Fin 4) (i j : Fin 128) :
    wtile (F := Ideal) w s (ix2 ⟨128 * g.1 + i.1, by omega⟩ ⟨128 * n.1 + j.1, by omega⟩)
      = w (ix3 (0 : Fin 1) ⟨128 * g.1 + i.1, by omega⟩ ⟨128 * n.1 + j.1, by omega⟩) * s g n := by
  have hw : ∀ (a : Fin 256) (b : Fin 512), shapeCast S256x512 w shapeCasts_S1x256x512_S256x512 (ix2 a b) = w (ix3 (0 : Fin 1) a b) :=
    fun a b => shapeCast_1ab_ab_apply w shapeCasts_S1x256x512_S256x512 a b
  match g with
  | ⟨0, _⟩ =>
    refine (concatenate_pair_apply_left 0 _ _ concatenates_S128x512_S128x512_S256x512_d0 _ rfl (ix2 i ⟨128 * n.1 + j.1, by omega⟩) fun b => ?_).trans ?_
    · match b with
      | ⟨0, _⟩ => show i.val = 128 * 0 + i.val; omega
      | ⟨1, _⟩ => rfl
    · rw [wrow_apply, ← hw]
      refine congrArg (· * s 0 n) ?_
      match n with
      | ⟨0, _⟩ => exact block_apply (shapeCast S256x512 w shapeCasts_S1x256x512_S256x512) 0 0 slices_S256x512_o0_0_S128x128 i j ⟨128 * 0 + i.1, by omega⟩ ⟨128 * 0 + j.1, by omega⟩ (by simp) (by simp)
      | ⟨1, _⟩ => exact block_apply (shapeCast S256x512 w shapeCasts_S1x256x512_S256x512) 0 128 slices_S256x512_o0_128_S128x128 i j ⟨128 * 0 + i.1, by omega⟩ ⟨128 * 1 + j.1, by omega⟩ (by simp) (by simp)
      | ⟨2, _⟩ => exact block_apply (shapeCast S256x512 w shapeCasts_S1x256x512_S256x512) 0 256 slices_S256x512_o0_256_S128x128 i j ⟨128 * 0 + i.1, by omega⟩ ⟨128 * 2 + j.1, by omega⟩ (by simp) (by simp)
      | ⟨3, _⟩ => exact block_apply (shapeCast S256x512 w shapeCasts_S1x256x512_S256x512) 0 384 slices_S256x512_o0_384_S128x128 i j ⟨128 * 0 + i.1, by omega⟩ ⟨128 * 3 + j.1, by omega⟩ (by simp) (by simp)
  | ⟨1, _⟩ =>
    refine (concatenate_pair_apply_right 0 _ _ concatenates_S128x512_S128x512_S256x512_d0 _ rfl rfl (ix2 i ⟨128 * n.1 + j.1, by omega⟩) (fun b hb => ?_) ?_).trans ?_
    · match b with
      | ⟨0, _⟩ => exact absurd rfl hb
      | ⟨1, _⟩ => rfl
    · show i.val + 128 = 128 * 1 + i.val
      omega
    · rw [wrow_apply, ← hw]
      refine congrArg (· * s 1 n) ?_
      match n with
      | ⟨0, _⟩ => exact block_apply (shapeCast S256x512 w shapeCasts_S1x256x512_S256x512) 128 0 slices_S256x512_o128_0_S128x128 i j ⟨128 * 1 + i.1, by omega⟩ ⟨128 * 0 + j.1, by omega⟩ (by simp) (by simp)
      | ⟨1, _⟩ => exact block_apply (shapeCast S256x512 w shapeCasts_S1x256x512_S256x512) 128 128 slices_S256x512_o128_128_S128x128 i j ⟨128 * 1 + i.1, by omega⟩ ⟨128 * 1 + j.1, by omega⟩ (by simp) (by simp)
      | ⟨2, _⟩ => exact block_apply (shapeCast S256x512 w shapeCasts_S1x256x512_S256x512) 128 256 slices_S256x512_o128_256_S128x128 i j ⟨128 * 1 + i.1, by omega⟩ ⟨128 * 2 + j.1, by omega⟩ (by simp) (by simp)
      | ⟨3, _⟩ => exact block_apply (shapeCast S256x512 w shapeCasts_S1x256x512_S256x512) 128 384 slices_S256x512_o128_384_S128x128 i j ⟨128 * 1 + i.1, by omega⟩ ⟨128 * 3 + j.1, by omega⟩ (by simp) (by simp)

/-! ## A chunk of the product -/

theorem part_apply (x : FVec Ideal S192x256 .bf16) (w : FVec Ideal S256x512 .bf16) (r : Fin 192) (j : Fin 512) :
    part x w (ix2 r j) = ∑ m : Fin 256, x (ix2 r m) * w (ix2 m j) := by
  refine (Ideal.matmul_plain_apply (M := 192) (K := 256) (N := 512) none x w (constant S192x512 .f32 0x00000000#32) r j).trans ?_
  have h0 : (constant (F := Ideal) S192x512 .f32 0x00000000#32 : FVec Ideal S192x512 .f32) (ix2 r j) = 0 := lit_zero
  rw [h0, zero_add]

theorem chunk_apply (x : Fin 8 → FVec Ideal S192x256 .bf16) (w : Fin 8 → Vec Ideal S1x256x512 .fp8e4m3) (s : Fin 16 → Fin 64 → EReal) (q : Fin 16)
    (r : Fin 192) (j : Fin 512) :
    chunk (F := Ideal) x w s q (ix2 r j) = ∑ k : Fin 8, ∑ m : Fin 256, x k (ix2 r m)
      * wtile (F := Ideal) (w k) (fun g n => s ⟨2 * k.1 + g.1, by omega⟩ ⟨4 * q.1 + n.1, by omega⟩) (ix2 m j) := by
  rw [Fin.sum_univ_eight]
  simp only [← part_apply]
  rfl

end Cert.KernelIdeal.Hand

end
-- ==== Proof.Loads.lean ====
/-
  What the run's loads hold, as entries of the arguments: each slot of a staging buffer is the part of the argument copied into it.
-/
module

public import proofs.«01_k».proof.Proof.Step
public import Idealize.ShloMosaic.Lib.Writes
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]

/-- The element (a, i, j) of a buffer whose first `n` slots are filled, `a < n`. -/
theorem read_slots {N A B : ℕ} {e : EltTy} (M : Memref sig .tc .vmem ⟨3, ![N, A, B]⟩ e)
    (hs : (⟨3, ![1, A, B]⟩ : Shape).Squeezes ⟨2, ![A, B]⟩) (f : M.view.ty.Contents (Elt F)) (w : Fin N → (⟨2, ![A, B]⟩ : Shape).Idx → Elt F e)
    (a : Fin N) (i : Fin A) (j : Fin B) :
    ∀ (n : ℕ) (h : n ≤ N), a.val < n → M.view.read (Elt F) (slots M hs f w n h) (ix3 a i j) = w a (ix2 i j)
  | 0, _, h => absurd h (Nat.not_lt_zero _)
  | n + 1, hn, h => by
    have hv : slots M hs f w (n + 1) hn = (M.view.slice (Rect.unit (s := ⟨3, ![N, A, B]⟩) ![n, 0, 0] (⟨3, ![1, A, B]⟩ : Shape).size
          (inb3 hn 0 (Nat.zero_add A).le le_rfl))).write (Elt F) (slots M hs f w n (Nat.le_of_succ_le hn))
          (fun x => w ⟨n, hn⟩ ((Shape.reshapeEquiv hs.numel_eq).symm x)) Finset.univ := View.write_reshape_univ ..
    rw [hv]
    by_cases ha : a.val = n
    · obtain rfl : a = ⟨n, hn⟩ := Fin.ext ha
      have he : (ix3 (⟨n, hn⟩ : Fin N) i j : (⟨3, ![N, A, B]⟩ : Shape).Idx) = (Rect.unit (s := ⟨3, ![N, A, B]⟩) ![n, 0, 0] (⟨3, ![1, A, B]⟩ : Shape).size
          (inb3 hn 0 (Nat.zero_add A).le le_rfl)).emb (ix3 (⟨0, Nat.one_pos⟩ : Fin 1) i j) := by
        symm
        apply Rect.emb_eq_of_coords
        intro b
        match b with
        | ⟨0, _⟩ => rfl
        | ⟨1, _⟩ => show i.val = 0 + 1 * i.val; omega
        | ⟨2, _⟩ => show j.val = 0 + 1 * j.val; omega
      rw [he, View.read_slice_write_emb _ _ _ (Finset.mem_univ _)]
      congr 1
      rw [Equiv.symm_apply_eq]
      exact (reshapeEquiv_ix2_1ab _ i j).symm
    · rw [View.read_slice_write_of_not_mem]
      · exact read_slots M hs f w a i j n (Nat.le_of_succ_le hn) (by omega)
      · rw [Rect.map_emb_univ]
        intro hm
        refine Rect.not_mem_set_of_axis (Rect.unit (s := ⟨3, ![N, A, B]⟩) ![n, 0, 0] (⟨3, ![1, A, B]⟩ : Shape).size
          (inb3 hn 0 (Nat.zero_add A).le le_rfl)) (ix3 a i j) 0 n 1 rfl rfl rfl (.inl ?_) hm
        show a.val < n
        omega

variable (c : Dev nD) (fi : Bf (F := F) c main_v1) (fx : Bf (F := F) c main_v0) (fs : Bf (F := F) c main_arg3) (fw : Bf (F := F) c main_arg2)
  (s0 : Bf (F := F) c cc0_scratch0) (s1 : Bf (F := F) c cc0_scratch1) (s2 : Bf (F := F) c cc0_scratch2) (s3 : Bf (F := F) c cc0_scratch3)
  (s4 : Bf (F := F) c cc0_scratch4)

/-- A box of a matrix read at (i, j). -/
theorem unit_emb2 {A B a b : ℕ} (o u : ℕ) (h) (i : Fin a) (j : Fin b) (i' : Fin A) (j' : Fin B) (hi : i'.val = o + i.val) (hj : j'.val = u + j.val) :
    (Rect.unit (s := ⟨2, ![A, B]⟩) ![o, u] (⟨2, ![a, b]⟩ : Shape).size h).emb (ix2 i j) = ix2 i' j' := by
  apply Rect.emb_eq_of_coords
  intro k
  match k with
  | ⟨0, _⟩ => show i'.val = o + 1 * i.val; omega
  | ⟨1, _⟩ => show j'.val = u + 1 * j.val; omega

/-- A box of one block of a three-axis array read at (0, i, j). -/
theorem unit_emb3 {N A B a b : ℕ} (k : Fin N) (o : ℕ) (h) (z : Fin 1) (i : Fin a) (j : Fin b) (i' : Fin A) (j' : Fin B) (hi : i'.val = o + i.val) (hj : j'.val = j.val) :
    (Rect.unit (s := ⟨3, ![N, A, B]⟩) ![k.val, o, 0] (⟨3, ![1, a, b]⟩ : Shape).size h).emb (ix3 z i j) = ix3 k i' j' := by
  apply Rect.emb_eq_of_coords
  intro l
  match l with
  | ⟨0, _⟩ => show k.val = k.val + 1 * z.val; omega
  | ⟨1, _⟩ => show i'.val = o + 1 * i.val; omega
  | ⟨2, _⟩ => show j'.val = 0 + 1 * j.val; omega

/-- A load reads its box. -/
theorem readAt_at {sp : Space} {s : Shape} {e : EltTy} (v : View sig .tc sp s e) (r : Rect s) (f : v.ty.Contents (Elt F)) (x : r.shape.Idx) (y : s.Idx)
    (h : r.emb x = y) : v.readAt (Elt F) r.toLoadRect f x = v.read (Elt F) f y := by
  subst h; rfl

/-- A box of a view reads the view there. -/
theorem read_at {sp : Space} {s : Shape} {e : EltTy} (v : View sig .tc sp s e) (r : Rect s) (f : v.ty.Contents (Elt F)) (x : r.shape.Idx) (y : s.Idx)
    (h : r.emb x = y) : (v.slice r).read (Elt F) f x = v.read (Elt F) f y := by
  subst h; rfl

theorem idsL_eq (r : Fin 192) : idsL c fi s0 (ix2 0 r) = fi (ix2 0 r) := by
  refine (readAt_at _ _ _ _ (ix2 (0 : Fin 1) r) (unit_emb2 0 0 _ (0 : Fin 1) r (0 : Fin 1) r rfl (by omega))).trans ?_
  rw [View.read_write_univ]
  rfl

theorem scaleL_eq (a : Fin 16) (b : Fin 64) : scaleL c fs s1 a b = fs (ix2 a b) := by
  have h1 : (Shape.Idx.first (s := S1x1) (by decide)) = ix2 (0 : Fin 1) (0 : Fin 1) := by
    funext k
    match k with
    | ⟨0, _⟩ => rfl
    | ⟨1, _⟩ => rfl
  unfold scaleL
  rw [h1]
  refine (readAt_at _ _ _ _ (ix2 a b) (unit_emb2 a.1 b.1 _ (0 : Fin 1) (0 : Fin 1) a b rfl rfl)).trans ?_
  rw [View.read_write_univ]
  rfl

theorem xL_eq (k : Fin 8) (z : Fin 1) (m : Fin 512) (j : Fin 256) :
    xL c fx s2 k (ix3 z m j) = fx (ix2 m ⟨256 * k.val + j.val, by omega⟩) := by
  refine (readAt_at _ _ _ _ (ix3 k m j) (unit_emb3 k 0 _ z m j m j (by omega) rfl)).trans ?_
  refine (read_slots _ _ _ _ k m j 8 le_rfl k.isLt).trans ?_
  exact read_at (Memref.whole main_v0).view (Rect.unit (s := S512x2048) ![0, 256 * k.1] S512x256.size (xin k)) fx (ix2 m j)
    (ix2 m ⟨256 * k.val + j.val, by omega⟩) (unit_emb2 0 (256 * k.1) _ m j _ _ (by omega) rfl)

theorem w0L_eq (k : Fin 8) (z : Fin 1) (m : Fin 256) (j : Fin 512) :
    w0L c fw s3 k (ix3 z m j) = fw (ix2 ⟨256 * k.val + m.val, by omega⟩ ⟨j.val, by omega⟩) := by
  refine (readAt_at _ _ _ _ (ix3 k m j) (unit_emb3 k 0 _ z m j m j (by omega) rfl)).trans ?_
  refine (read_slots _ _ _ _ k m j 8 le_rfl k.isLt).trans ?_
  exact read_at (Memref.whole main_arg2).view (Rect.unit (s := S2048x8192) ![256 * k.1, 0] S256x512.size (w0in k)) fw (ix2 m j)
    (ix2 ⟨256 * k.val + m.val, by omega⟩ ⟨j.val, by omega⟩) (unit_emb2 (256 * k.1) 0 _ m j _ _ rfl (by simp))

theorem wL_eq (q : Fin 15) (k : Fin 8) (z : Fin 1) (m : Fin 256) (j : Fin 512) :
    wL c fw s4 q k (ix3 z m j) = fw (ix2 ⟨256 * k.val + m.val, by omega⟩ ⟨512 * q.val + 512 + j.val, by omega⟩) := by
  refine (readAt_at _ _ _ _ (ix3 q (⟨256 * k.val + m.val, by omega⟩ : Fin 2048) j) (unit_emb3 q (256 * k.1) _ z m j _ j rfl rfl)).trans ?_
  refine (read_slots _ _ _ _ q _ j 15 le_rfl q.isLt).trans ?_
  exact read_at (Memref.whole main_arg2).view (Rect.unit (s := S2048x8192) ![0, 512 * q.1 + 512] S2048x512.size (win q)) fw (ix2 _ j)
    (ix2 ⟨256 * k.val + m.val, by omega⟩ ⟨512 * q.val + 512 + j.val, by omega⟩) (unit_emb2 0 (512 * q.1 + 512) _ _ j _ _ (by simp) rfl)

/-! ## Stored pieces loaded back -/

/-- Of several pieces stored, apart from each other at an element of the `k`-th, that element holds what the `k`-th put there. -/
theorem read_stored {sp : Space} {s : Shape} {e : EltTy} (v : View sig .tc sp s e) (f : v.ty.Contents (Elt F)) {ι : Type} [DecidableEq ι]
    (P : ι → View.Piece (Elt F) s e) (k : ι) (x : (P k).1.shape.Idx) (hmiss : ∀ n, n ≠ k → (P k).1.emb x ∉ (P n).1.set) :
    ∀ l : List ι, k ∈ l → v.read (Elt F) (v.writes (Elt F) f (l.map P)) ((P k).1.emb x) = (P k).2 x
  | [], h => absurd h List.not_mem_nil
  | n :: l, h => by
    rw [List.map_cons]
    by_cases hn : n = k
    · subst hn
      exact View.read_writes_cons_emb ..
    · rw [View.writes_cons, View.read_slice_write_of_not_mem _ _ _ _ (by rw [Rect.map_emb_univ]; exact hmiss n hn)]
      exact read_stored v f P k x hmiss l ((List.mem_cons.mp h).resolve_left fun h => hn h.symm)

theorem xbL_eq (k : Fin 8) : xbL c fi fx s0 s2 k = xblk (selL c fi fx s0 s2 k) := by
  funext y
  refine (readAt_at (F := F) (Memref.whole cc0_scratch5).view (xbP c fi fx s0 s2 k).1 _ y ((xbP c fi fx s0 s2 k).1.emb y) rfl).trans ?_
  refine (read_stored (Memref.whole cc0_scratch5).view _ (xbP c fi fx s0 s2) k y ?_ [7, 6, 5, 4, 3, 2, 1, 0] ?_).trans ?_
  · intro n hn
    refine Rect.not_mem_set_of_axis _ _ 1 (256 * n.1) 256 rfl rfl rfl ?_
    show 256 * k.1 + 1 * (y 1).val < _ ∨ _ ≤ 256 * k.1 + 1 * (y 1).val
    have h1 : (y 1).val < 256 := (y 1).isLt
    have h2 : n.val ≠ k.val := fun h => hn (Fin.ext h)
    omega
  · revert k; decide
  · exact congrFun (shapeCast_self (xblk (selL c fi fx s0 s2 k)) shapeCasts_S192x256_S192x256) y

end Cert.KernelIdeal.Hand

end
-- ==== Proof.Chunks.lean ====
/-
  The sixteen chunks of the product as the run stores them: each is `chunk` of what it loads.
-/
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- One partial product, its eight block scales one by one. -/
def part8 (x : FVec F S192x256 .bf16) (w : Vec F S1x256x512 .fp8e4m3) (a0 a1 a2 a3 b0 b1 b2 b3 : Elt F .f32) : FVec F S192x512 .f32 :=
  have t : FVec F S256x512 .fp8e4m3 := shapeCast S256x512 w shapeCasts_S1x256x512_S256x512
  part x (concatenate S256x512 0
    [⟨S128x512, concatenate S128x512 1
      [⟨S128x128, wone (extractStridedSlice S128x128 ![0, 0] t slices_S256x512_o0_0_S128x128) a0⟩,
       ⟨S128x128, wone (extractStridedSlice S128x128 ![0, 128] t slices_S256x512_o0_128_S128x128) a1⟩,
       ⟨S128x128, wone (extractStridedSlice S128x128 ![0, 256] t slices_S256x512_o0_256_S128x128) a2⟩,
       ⟨S128x128, wone (extractStridedSlice S128x128 ![0, 384] t slices_S256x512_o0_384_S128x128) a3⟩]
      concatenates_S128x128_S128x128_S128x128_S128x128_S128x512_d1⟩,
     ⟨S128x512, concatenate S128x512 1
      [⟨S128x128, wone (extractStridedSlice S128x128 ![128, 0] t slices_S256x512_o128_0_S128x128) b0⟩,
       ⟨S128x128, wone (extractStridedSlice S128x128 ![128, 128] t slices_S256x512_o128_128_S128x128) b1⟩,
       ⟨S128x128, wone (extractStridedSlice S128x128 ![128, 256] t slices_S256x512_o128_256_S128x128) b2⟩,
       ⟨S128x128, wone (extractStridedSlice S128x128 ![128, 384] t slices_S256x512_o128_384_S128x128) b3⟩]
      concatenates_S128x128_S128x128_S128x128_S128x128_S128x512_d1⟩]
    concatenates_S128x512_S128x512_S256x512_d0)

/-- Eight partial products added up in order and rounded. -/
def sum8 (p0 p1 p2 p3 p4 p5 p6 p7 : FVec F S192x512 .f32) : FVec F S192x512 .bf16 :=
  truncf .bf16 (addf (addf (addf (addf (addf (addf (addf p0 p1) p2) p3) p4) p5) p6) p7) bitsLt_bf16_f32

variable (c : Dev nD)
variable (fi : Bf (F := F) c main_v1) (fx : Bf (F := F) c main_v0) (fs : Bf (F := F) c main_arg3) (fw : Bf (F := F) c main_arg2)
  (s0 : Bf (F := F) c cc0_scratch0) (s1 : Bf (F := F) c cc0_scratch1) (s2 : Bf (F := F) c cc0_scratch2) (s3 : Bf (F := F) c cc0_scratch3)
  (s4 : Bf (F := F) c cc0_scratch4)

/-- Partial product `k` of chunk `q`, from its left factor, its tile and the table of scales. -/
abbrev partL (x : FVec F S192x256 .bf16) (w : Vec F S1x256x512 .fp8e4m3) (q : Fin 16) (k : Fin 8) : FVec F S192x512 .f32 :=
  part8 x w (scaleL c fs s1 ⟨2 * k.1 + 0, by omega⟩ ⟨4 * q.1 + 0, by omega⟩) (scaleL c fs s1 ⟨2 * k.1 + 0, by omega⟩ ⟨4 * q.1 + 1, by omega⟩)
    (scaleL c fs s1 ⟨2 * k.1 + 0, by omega⟩ ⟨4 * q.1 + 2, by omega⟩) (scaleL c fs s1 ⟨2 * k.1 + 0, by omega⟩ ⟨4 * q.1 + 3, by omega⟩)
    (scaleL c fs s1 ⟨2 * k.1 + 1, by omega⟩ ⟨4 * q.1 + 0, by omega⟩) (scaleL c fs s1 ⟨2 * k.1 + 1, by omega⟩ ⟨4 * q.1 + 1, by omega⟩)
    (scaleL c fs s1 ⟨2 * k.1 + 1, by omega⟩ ⟨4 * q.1 + 2, by omega⟩) (scaleL c fs s1 ⟨2 * k.1 + 1, by omega⟩ ⟨4 * q.1 + 3, by omega⟩)

/-- The first chunk: the left factor's blocks as just computed. -/
def y0L : FVec F S192x512 .bf16 :=
  chunk (fun k => xblk (selL c fi fx s0 s2 k)) (w0L c fw s3) (scaleL c fs s1) 0

/-- The other chunks: the left factor's blocks as loaded back. -/
def yL (q : Fin 15) : FVec F S192x512 .bf16 :=
  chunk (xbL c fi fx s0 s2) (wL c fw s4 q) (scaleL c fs s1) ⟨q.1 + 1, by omega⟩

theorem chunk_eq (x : Fin 8 → FVec F S192x256 .bf16) (w : Fin 8 → Vec F S1x256x512 .fp8e4m3) (q : Fin 16) :
    chunk x w (scaleL c fs s1) q = sum8 (partL c fs s1 (x 0) (w 0) q 0) (partL c fs s1 (x 1) (w 1) q 1) (partL c fs s1 (x 2) (w 2) q 2)
      (partL c fs s1 (x 3) (w 3) q 3) (partL c fs s1 (x 4) (w 4) q 4) (partL c fs s1 (x 5) (w 5) q 5) (partL c fs s1 (x 6) (w 6) q 6)
      (partL c fs s1 (x 7) (w 7) q 7) := Eq.refl _

/-! ## The loads by name -/

theorem ld_v307 : kernelRun.sl.v307 c fw s3 = w0L c fw s3 0 := Eq.refl _
theorem ld_v478 : kernelRun.sl.v478 c fw s3 = w0L c fw s3 1 := Eq.refl _
theorem ld_v650 : kernelRun.sl.v650 c fw s3 = w0L c fw s3 2 := Eq.refl _
theorem ld_v822 : kernelRun.sl.v822 c fw s3 = w0L c fw s3 3 := Eq.refl _
theorem ld_v994 : kernelRun.sl.v994 c fw s3 = w0L c fw s3 4 := Eq.refl _
theorem ld_v1166 : kernelRun.sl.v1166 c fw s3 = w0L c fw s3 5 := Eq.refl _
theorem ld_v1338 : kernelRun.sl.v1338 c fw s3 = w0L c fw s3 6 := Eq.refl _
theorem ld_v1510 : kernelRun.sl.v1510 c fw s3 = w0L c fw s3 7 := Eq.refl _
theorem ld_v1636 : kernelRun.sl.v1636 c fi fx s0 s2 = xbL c fi fx s0 s2 0 := Eq.refl _
theorem ld_v1691 : kernelRun.sl.v1691 c fi fx s0 s2 = xbL c fi fx s0 s2 1 := Eq.refl _
theorem ld_v1747 : kernelRun.sl.v1747 c fi fx s0 s2 = xbL c fi fx s0 s2 2 := Eq.refl _
theorem ld_v1803 : kernelRun.sl.v1803 c fi fx s0 s2 = xbL c fi fx s0 s2 3 := Eq.refl _
theorem ld_v1859 : kernelRun.sl.v1859 c fi fx s0 s2 = xbL c fi fx s0 s2 4 := Eq.refl _
theorem ld_v1915 : kernelRun.sl.v1915 c fi fx s0 s2 = xbL c fi fx s0 s2 5 := Eq.refl _
theorem ld_v1971 : kernelRun.sl.v1971 c fi fx s0 s2 = xbL c fi fx s0 s2 6 := Eq.refl _
theorem ld_v2027 : kernelRun.sl.v2027 c fi fx s0 s2 = xbL c fi fx s0 s2 7 := Eq.refl _
theorem ld_v1583 : kernelRun.sl.v1583 c fw s4 = wL c fw s4 0 0 := Eq.refl _
theorem ld_v1638 : kernelRun.sl.v1638 c fw s4 = wL c fw s4 0 1 := Eq.refl _
theorem ld_v1694 : kernelRun.sl.v1694 c fw s4 = wL c fw s4 0 2 := Eq.refl _
theorem ld_v1750 : kernelRun.sl.v1750 c fw s4 = wL c fw s4 0 3 := Eq.refl _
theorem ld_v1806 : kernelRun.sl.v1806 c fw s4 = wL c fw s4 0 4 := Eq.refl _
theorem ld_v1862 : kernelRun.sl.v1862 c fw s4 = wL c fw s4 0 5 := Eq.refl _
theorem ld_v1918 : kernelRun.sl.v1918 c fw s4 = wL c fw s4 0 6 := Eq.refl _
theorem ld_v1974 : kernelRun.sl.v1974 c fw s4 = wL c fw s4 0 7 := Eq.refl _
theorem ld_v2044 : kernelRun.sl.v2044 c fw s4 = wL c fw s4 1 0 := Eq.refl _
theorem ld_v2099 : kernelRun.sl.v2099 c fw s4 = wL c fw s4 1 1 := Eq.refl _
theorem ld_v2155 : kernelRun.sl.v2155 c fw s4 = wL c fw s4 1 2 := Eq.refl _
theorem ld_v2211 : kernelRun.sl.v2211 c fw s4 = wL c fw s4 1 3 := Eq.refl _
theorem ld_v2267 : kernelRun.sl.v2267 c fw s4 = wL c fw s4 1 4 := Eq.refl _
theorem ld_v2323 : kernelRun.sl.v2323 c fw s4 = wL c fw s4 1 5 := Eq.refl _
theorem ld_v2379 : kernelRun.sl.v2379 c fw s4 = wL c fw s4 1 6 := Eq.refl _
theorem ld_v2435 : kernelRun.sl.v2435 c fw s4 = wL c fw s4 1 7 := Eq.refl _
theorem ld_v2505 : kernelRun.sl.v2505 c fw s4 = wL c fw s4 2 0 := Eq.refl _
theorem ld_v2560 : kernelRun.sl.v2560 c fw s4 = wL c fw s4 2 1 := Eq.refl _
theorem ld_v2616 : kernelRun.sl.v2616 c fw s4 = wL c fw s4 2 2 := Eq.refl _
theorem ld_v2672 : kernelRun.sl.v2672 c fw s4 = wL c fw s4 2 3 := Eq.refl _
theorem ld_v2728 : kernelRun.sl.v2728 c fw s4 = wL c fw s4 2 4 := Eq.refl _
theorem ld_v2784 : kernelRun.sl.v2784 c fw s4 = wL c fw s4 2 5 := Eq.refl _
theorem ld_v2840 : kernelRun.sl.v2840 c fw s4 = wL c fw s4 2 6 := Eq.refl _
theorem ld_v2896 : kernelRun.sl.v2896 c fw s4 = wL c fw s4 2 7 := Eq.refl _
theorem ld_v2966 : kernelRun.sl.v2966 c fw s4 = wL c fw s4 3 0 := Eq.refl _
theorem ld_v3021 : kernelRun.sl.v3021 c fw s4 = wL c fw s4 3 1 := Eq.refl _
theorem ld_v3077 : kernelRun.sl.v3077 c fw s4 = wL c fw s4 3 2 := Eq.refl _
theorem ld_v3133 : kernelRun.sl.v3133 c fw s4 = wL c fw s4 3 3 := Eq.refl _
theorem ld_v3189 : kernelRun.sl.v3189 c fw s4 = wL c fw s4 3 4 := Eq.refl _
theorem ld_v3245 : kernelRun.sl.v3245 c fw s4 = wL c fw s4 3 5 := Eq.refl _
theorem ld_v3301 : kernelRun.sl.v3301 c fw s4 = wL c fw s4 3 6 := Eq.refl _
theorem ld_v3357 : kernelRun.sl.v3357 c fw s4 = wL c fw s4 3 7 := Eq.refl _
theorem ld_v3427 : kernelRun.sl.v3427 c fw s4 = wL c fw s4 4 0 := Eq.refl _
theorem ld_v3482 : kernelRun.sl.v3482 c fw s4 = wL c fw s4 4 1 := Eq.refl _
theorem ld_v3538 : kernelRun.sl.v3538 c fw s4 = wL c fw s4 4 2 := Eq.refl _
theorem ld_v3594 : kernelRun.sl.v3594 c fw s4 = wL c fw s4 4 3 := Eq.refl _
theorem ld_v3650 : kernelRun.sl.v3650 c fw s4 = wL c fw s4 4 4 := Eq.refl _
theorem ld_v3706 : kernelRun.sl.v3706 c fw s4 = wL c fw s4 4 5 := Eq.refl _
theorem ld_v3762 : kernelRun.sl.v3762 c fw s4 = wL c fw s4 4 6 := Eq.refl _
theorem ld_v3818 : kernelRun.sl.v3818 c fw s4 = wL c fw s4 4 7 := Eq.refl _
theorem ld_v3888 : kernelRun.sl.v3888 c fw s4 = wL c fw s4 5 0 := Eq.refl _
theorem ld_v3943 : kernelRun.sl.v3943 c fw s4 = wL c fw s4 5 1 := Eq.refl _
theorem ld_v3999 : kernelRun.sl.v3999 c fw s4 = wL c fw s4 5 2 := Eq.refl _
theorem ld_v4055 : kernelRun.sl.v4055 c fw s4 = wL c fw s4 5 3 := Eq.refl _
theorem ld_v4111 : kernelRun.sl.v4111 c fw s4 = wL c fw s4 5 4 := Eq.refl _
theorem ld_v4167 : kernelRun.sl.v4167 c fw s4 = wL c fw s4 5 5 := Eq.refl _
theorem ld_v4223 : kernelRun.sl.v4223 c fw s4 = wL c fw s4 5 6 := Eq.refl _
theorem ld_v4279 : kernelRun.sl.v4279 c fw s4 = wL c fw s4 5 7 := Eq.refl _
theorem ld_v4349 : kernelRun.sl.v4349 c fw s4 = wL c fw s4 6 0 := Eq.refl _
theorem ld_v4404 : kernelRun.sl.v4404 c fw s4 = wL c fw s4 6 1 := Eq.refl _
theorem ld_v4460 : kernelRun.sl.v4460 c fw s4 = wL c fw s4 6 2 := Eq.refl _
theorem ld_v4516 : kernelRun.sl.v4516 c fw s4 = wL c fw s4 6 3 := Eq.refl _
theorem ld_v4572 : kernelRun.sl.v4572 c fw s4 = wL c fw s4 6 4 := Eq.refl _
theorem ld_v4628 : kernelRun.sl.v4628 c fw s4 = wL c fw s4 6 5 := Eq.refl _
theorem ld_v4684 : kernelRun.sl.v4684 c fw s4 = wL c fw s4 6 6 := Eq.refl _
theorem ld_v4740 : kernelRun.sl.v4740 c fw s4 = wL c fw s4 6 7 := Eq.refl _
theorem ld_v4810 : kernelRun.sl.v4810 c fw s4 = wL c fw s4 7 0 := Eq.refl _
theorem ld_v4865 : kernelRun.sl.v4865 c fw s4 = wL c fw s4 7 1 := Eq.refl _
theorem ld_v4921 : kernelRun.sl.v4921 c fw s4 = wL c fw s4 7 2 := Eq.refl _
theorem ld_v4977 : kernelRun.sl.v4977 c fw s4 = wL c fw s4 7 3 := Eq.refl _
theorem ld_v5033 : kernelRun.sl.v5033 c fw s4 = wL c fw s4 7 4 := Eq.refl _
theorem ld_v5089 : kernelRun.sl.v5089 c fw s4 = wL c fw s4 7 5 := Eq.refl _
theorem ld_v5145 : kernelRun.sl.v5145 c fw s4 = wL c fw s4 7 6 := Eq.refl _
theorem ld_v5201 : kernelRun.sl.v5201 c fw s4 = wL c fw s4 7 7 := Eq.refl _
theorem ld_v5271 : kernelRun.sl.v5271 c fw s4 = wL c fw s4 8 0 := Eq.refl _
theorem ld_v5326 : kernelRun.sl.v5326 c fw s4 = wL c fw s4 8 1 := Eq.refl _
theorem ld_v5382 : kernelRun.sl.v5382 c fw s4 = wL c fw s4 8 2 := Eq.refl _
theorem ld_v5438 : kernelRun.sl.v5438 c fw s4 = wL c fw s4 8 3 := Eq.refl _
theorem ld_v5494 : kernelRun.sl.v5494 c fw s4 = wL c fw s4 8 4 := Eq.refl _
theorem ld_v5550 : kernelRun.sl.v5550 c fw s4 = wL c fw s4 8 5 := Eq.refl _
theorem ld_v5606 : kernelRun.sl.v5606 c fw s4 = wL c fw s4 8 6 := Eq.refl _
theorem ld_v5662 : kernelRun.sl.v5662 c fw s4 = wL c fw s4 8 7 := Eq.refl _
theorem ld_v5732 : kernelRun.sl.v5732 c fw s4 = wL c fw s4 9 0 := Eq.refl _
theorem ld_v5787 : kernelRun.sl.v5787 c fw s4 = wL c fw s4 9 1 := Eq.refl _
theorem ld_v5843 : kernelRun.sl.v5843 c fw s4 = wL c fw s4 9 2 := Eq.refl _
theorem ld_v5899 : kernelRun.sl.v5899 c fw s4 = wL c fw s4 9 3 := Eq.refl _
theorem ld_v5955 : kernelRun.sl.v5955 c fw s4 = wL c fw s4 9 4 := Eq.refl _
theorem ld_v6011 : kernelRun.sl.v6011 c fw s4 = wL c fw s4 9 5 := Eq.refl _
theorem ld_v6067 : kernelRun.sl.v6067 c fw s4 = wL c fw s4 9 6 := Eq.refl _
theorem ld_v6123 : kernelRun.sl.v6123 c fw s4 = wL c fw s4 9 7 := Eq.refl _
theorem ld_v6193 : kernelRun.sl.v6193 c fw s4 = wL c fw s4 10 0 := Eq.refl _
theorem ld_v6248 : kernelRun.sl.v6248 c fw s4 = wL c fw s4 10 1 := Eq.refl _
theorem ld_v6304 : kernelRun.sl.v6304 c fw s4 = wL c fw s4 10 2 := Eq.refl _
theorem ld_v6360 : kernelRun.sl.v6360 c fw s4 = wL c fw s4 10 3 := Eq.refl _
theorem ld_v6416 : kernelRun.sl.v6416 c fw s4 = wL c fw s4 10 4 := Eq.refl _
theorem ld_v6472 : kernelRun.sl.v6472 c fw s4 = wL c fw s4 10 5 := Eq.refl _
theorem ld_v6528 : kernelRun.sl.v6528 c fw s4 = wL c fw s4 10 6 := Eq.refl _
theorem ld_v6584 : kernelRun.sl.v6584 c fw s4 = wL c fw s4 10 7 := Eq.refl _
theorem ld_v6654 : kernelRun.sl.v6654 c fw s4 = wL c fw s4 11 0 := Eq.refl _
theorem ld_v6709 : kernelRun.sl.v6709 c fw s4 = wL c fw s4 11 1 := Eq.refl _
theorem ld_v6765 : kernelRun.sl.v6765 c fw s4 = wL c fw s4 11 2 := Eq.refl _
theorem ld_v6821 : kernelRun.sl.v6821 c fw s4 = wL c fw s4 11 3 := Eq.refl _
theorem ld_v6877 : kernelRun.sl.v6877 c fw s4 = wL c fw s4 11 4 := Eq.refl _
theorem ld_v6933 : kernelRun.sl.v6933 c fw s4 = wL c fw s4 11 5 := Eq.refl _
theorem ld_v6989 : kernelRun.sl.v6989 c fw s4 = wL c fw s4 11 6 := Eq.refl _
theorem ld_v7045 : kernelRun.sl.v7045 c fw s4 = wL c fw s4 11 7 := Eq.refl _
theorem ld_v7115 : kernelRun.sl.v7115 c fw s4 = wL c fw s4 12 0 := Eq.refl _
theorem ld_v7170 : kernelRun.sl.v7170 c fw s4 = wL c fw s4 12 1 := Eq.refl _
theorem ld_v7226 : kernelRun.sl.v7226 c fw s4 = wL c fw s4 12 2 := Eq.refl _
theorem ld_v7282 : kernelRun.sl.v7282 c fw s4 = wL c fw s4 12 3 := Eq.refl _
theorem ld_v7338 : kernelRun.sl.v7338 c fw s4 = wL c fw s4 12 4 := Eq.refl _
theorem ld_v7394 : kernelRun.sl.v7394 c fw s4 = wL c fw s4 12 5 := Eq.refl _
theorem ld_v7450 : kernelRun.sl.v7450 c fw s4 = wL c fw s4 12 6 := Eq.refl _
theorem ld_v7506 : kernelRun.sl.v7506 c fw s4 = wL c fw s4 12 7 := Eq.refl _
theorem ld_v7576 : kernelRun.sl.v7576 c fw s4 = wL c fw s4 13 0 := Eq.refl _
theorem ld_v7631 : kernelRun.sl.v7631 c fw s4 = wL c fw s4 13 1 := Eq.refl _
theorem ld_v7687 : kernelRun.sl.v7687 c fw s4 = wL c fw s4 13 2 := Eq.refl _
theorem ld_v7743 : kernelRun.sl.v7743 c fw s4 = wL c fw s4 13 3 := Eq.refl _
theorem ld_v7799 : kernelRun.sl.v7799 c fw s4 = wL c fw s4 13 4 := Eq.refl _
theorem ld_v7855 : kernelRun.sl.v7855 c fw s4 = wL c fw s4 13 5 := Eq.refl _
theorem ld_v7911 : kernelRun.sl.v7911 c fw s4 = wL c fw s4 13 6 := Eq.refl _
theorem ld_v7967 : kernelRun.sl.v7967 c fw s4 = wL c fw s4 13 7 := Eq.refl _
theorem ld_v8037 : kernelRun.sl.v8037 c fw s4 = wL c fw s4 14 0 := Eq.refl _
theorem ld_v8092 : kernelRun.sl.v8092 c fw s4 = wL c fw s4 14 1 := Eq.refl _
theorem ld_v8148 : kernelRun.sl.v8148 c fw s4 = wL c fw s4 14 2 := Eq.refl _
theorem ld_v8204 : kernelRun.sl.v8204 c fw s4 = wL c fw s4 14 3 := Eq.refl _
theorem ld_v8260 : kernelRun.sl.v8260 c fw s4 = wL c fw s4 14 4 := Eq.refl _
theorem ld_v8316 : kernelRun.sl.v8316 c fw s4 = wL c fw s4 14 5 := Eq.refl _
theorem ld_v8372 : kernelRun.sl.v8372 c fw s4 = wL c fw s4 14 6 := Eq.refl _
theorem ld_v8428 : kernelRun.sl.v8428 c fw s4 = wL c fw s4 14 7 := Eq.refl _

/-! ## The chunks -/

set_option maxHeartbeats 0 in
theorem y_1 : kernelRun.sl.HS6_1 c fi fx fs fw s0 s1 s2 s3 = [yP 0 (y0L c fi fx fs fw s0 s1 s2 s3)] := by
  rw [y0L, chunk_eq, ← ld_v307, ← ld_v478, ← ld_v650, ← ld_v822, ← ld_v994, ← ld_v1166, ← ld_v1338, ← ld_v1510]
  exact Eq.refl _

set_option maxHeartbeats 0 in
theorem y_2 : kernelRun.sl.HS6_2 c fi fx fs fw s0 s1 s2 s3 s4 = yP 1 (yL c fi fx fs fw s0 s1 s2 s4 0) :: kernelRun.sl.HS6_1 c fi fx fs fw s0 s1 s2 s3 := by
  rw [yL, chunk_eq, ← ld_v1636, ← ld_v1691, ← ld_v1747, ← ld_v1803, ← ld_v1859, ← ld_v1915, ← ld_v1971, ← ld_v2027, ← ld_v1583, ← ld_v1638, ← ld_v1694, ← ld_v1750, ← ld_v1806, ← ld_v1862, ← ld_v1918, ← ld_v1974]
  exact Eq.refl _

set_option maxHeartbeats 0 in
theorem y_3 : kernelRun.sl.HS6_3 c fi fx fs fw s0 s1 s2 s3 s4 = yP 2 (yL c fi fx fs fw s0 s1 s2 s4 1) :: kernelRun.sl.HS6_2 c fi fx fs fw s0 s1 s2 s3 s4 := by
  rw [yL, chunk_eq, ← ld_v1636, ← ld_v1691, ← ld_v1747, ← ld_v1803, ← ld_v1859, ← ld_v1915, ← ld_v1971, ← ld_v2027, ← ld_v2044, ← ld_v2099, ← ld_v2155, ← ld_v2211, ← ld_v2267, ← ld_v2323, ← ld_v2379, ← ld_v2435]
  exact Eq.refl _

set_option maxHeartbeats 0 in
theorem y_4 : kernelRun.sl.HS6_4 c fi fx fs fw s0 s1 s2 s3 s4 = yP 3 (yL c fi fx fs fw s0 s1 s2 s4 2) :: kernelRun.sl.HS6_3 c fi fx fs fw s0 s1 s2 s3 s4 := by
  rw [yL, chunk_eq, ← ld_v1636, ← ld_v1691, ← ld_v1747, ← ld_v1803, ← ld_v1859, ← ld_v1915, ← ld_v1971, ← ld_v2027, ← ld_v2505, ← ld_v2560, ← ld_v2616, ← ld_v2672, ← ld_v2728, ← ld_v2784, ← ld_v2840, ← ld_v2896]
  exact Eq.refl _

set_option maxHeartbeats 0 in
theorem y_5 : kernelRun.sl.HS6_5 c fi fx fs fw s0 s1 s2 s3 s4 = yP 4 (yL c fi fx fs fw s0 s1 s2 s4 3) :: kernelRun.sl.HS6_4 c fi fx fs fw s0 s1 s2 s3 s4 := by
  rw [yL, chunk_eq, ← ld_v1636, ← ld_v1691, ← ld_v1747, ← ld_v1803, ← ld_v1859, ← ld_v1915, ← ld_v1971, ← ld_v2027, ← ld_v2966, ← ld_v3021, ← ld_v3077, ← ld_v3133, ← ld_v3189, ← ld_v3245, ← ld_v3301, ← ld_v3357]
  exact Eq.refl _

set_option maxHeartbeats 0 in
theorem y_6 : kernelRun.sl.HS6_6 c fi fx fs fw s0 s1 s2 s3 s4 = yP 5 (yL c fi fx fs fw s0 s1 s2 s4 4) :: kernelRun.sl.HS6_5 c fi fx fs fw s0 s1 s2 s3 s4 := by
  rw [yL, chunk_eq, ← ld_v1636, ← ld_v1691, ← ld_v1747, ← ld_v1803, ← ld_v1859, ← ld_v1915, ← ld_v1971, ← ld_v2027, ← ld_v3427, ← ld_v3482, ← ld_v3538, ← ld_v3594, ← ld_v3650, ← ld_v3706, ← ld_v3762, ← ld_v3818]
  exact Eq.refl _

set_option maxHeartbeats 0 in
theorem y_7 : kernelRun.sl.HS6_7 c fi fx fs fw s0 s1 s2 s3 s4 = yP 6 (yL c fi fx fs fw s0 s1 s2 s4 5) :: kernelRun.sl.HS6_6 c fi fx fs fw s0 s1 s2 s3 s4 := by
  rw [yL, chunk_eq, ← ld_v1636, ← ld_v1691, ← ld_v1747, ← ld_v1803, ← ld_v1859, ← ld_v1915, ← ld_v1971, ← ld_v2027, ← ld_v3888, ← ld_v3943, ← ld_v3999, ← ld_v4055, ← ld_v4111, ← ld_v4167, ← ld_v4223, ← ld_v4279]
  exact Eq.refl _

set_option maxHeartbeats 0 in
theorem y_8 : kernelRun.sl.HS6_8 c fi fx fs fw s0 s1 s2 s3 s4 = yP 7 (yL c fi fx fs fw s0 s1 s2 s4 6) :: kernelRun.sl.HS6_7 c fi fx fs fw s0 s1 s2 s3 s4 := by
  rw [yL, chunk_eq, ← ld_v1636, ← ld_v1691, ← ld_v1747, ← ld_v1803, ← ld_v1859, ← ld_v1915, ← ld_v1971, ← ld_v2027, ← ld_v4349, ← ld_v4404, ← ld_v4460, ← ld_v4516, ← ld_v4572, ← ld_v4628, ← ld_v4684, ← ld_v4740]
  exact Eq.refl _

set_option maxHeartbeats 0 in
theorem y_9 : kernelRun.sl.HS6_9 c fi fx fs fw s0 s1 s2 s3 s4 = yP 8 (yL c fi fx fs fw s0 s1 s2 s4 7) :: kernelRun.sl.HS6_8 c fi fx fs fw s0 s1 s2 s3 s4 := by
  rw [yL, chunk_eq, ← ld_v1636, ← ld_v1691, ← ld_v1747, ← ld_v1803, ← ld_v1859, ← ld_v1915, ← ld_v1971, ← ld_v2027, ← ld_v4810, ← ld_v4865, ← ld_v4921, ← ld_v4977, ← ld_v5033, ← ld_v5089, ← ld_v5145, ← ld_v5201]
  exact Eq.refl _

set_option maxHeartbeats 0 in
theorem y_10 : kernelRun.sl.HS6_10 c fi fx fs fw s0 s1 s2 s3 s4 = yP 9 (yL c fi fx fs fw s0 s1 s2 s4 8) :: kernelRun.sl.HS6_9 c fi fx fs fw s0 s1 s2 s3 s4 := by
  rw [yL, chunk_eq, ← ld_v1636, ← ld_v1691, ← ld_v1747, ← ld_v1803, ← ld_v1859, ← ld_v1915, ← ld_v1971, ← ld_v2027, ← ld_v5271, ← ld_v5326, ← ld_v5382, ← ld_v5438, ← ld_v5494, ← ld_v5550, ← ld_v5606, ← ld_v5662]
  exact Eq.refl _

set_option maxHeartbeats 0 in
theorem y_11 : kernelRun.sl.HS6_11 c fi fx fs fw s0 s1 s2 s3 s4 = yP 10 (yL c fi fx fs fw s0 s1 s2 s4 9) :: kernelRun.sl.HS6_10 c fi fx fs fw s0 s1 s2 s3 s4 := by
  rw [yL, chunk_eq, ← ld_v1636, ← ld_v1691, ← ld_v1747, ← ld_v1803, ← ld_v1859, ← ld_v1915, ← ld_v1971, ← ld_v2027, ← ld_v5732, ← ld_v5787, ← ld_v5843, ← ld_v5899, ← ld_v5955, ← ld_v6011, ← ld_v6067, ← ld_v6123]
  exact Eq.refl _

set_option maxHeartbeats 0 in
theorem y_12 : kernelRun.sl.HS6_12 c fi fx fs fw s0 s1 s2 s3 s4 = yP 11 (yL c fi fx fs fw s0 s1 s2 s4 10) :: kernelRun.sl.HS6_11 c fi fx fs fw s0 s1 s2 s3 s4 := by
  rw [yL, chunk_eq, ← ld_v1636, ← ld_v1691, ← ld_v1747, ← ld_v1803, ← ld_v1859, ← ld_v1915, ← ld_v1971, ← ld_v2027, ← ld_v6193, ← ld_v6248, ← ld_v6304, ← ld_v6360, ← ld_v6416, ← ld_v6472, ← ld_v6528, ← ld_v6584]
  exact Eq.refl _

set_option maxHeartbeats 0 in
theorem y_13 : kernelRun.sl.HS6_13 c fi fx fs fw s0 s1 s2 s3 s4 = yP 12 (yL c fi fx fs fw s0 s1 s2 s4 11) :: kernelRun.sl.HS6_12 c fi fx fs fw s0 s1 s2 s3 s4 := by
  rw [yL, chunk_eq, ← ld_v1636, ← ld_v1691, ← ld_v1747, ← ld_v1803, ← ld_v1859, ← ld_v1915, ← ld_v1971, ← ld_v2027, ← ld_v6654, ← ld_v6709, ← ld_v6765, ← ld_v6821, ← ld_v6877, ← ld_v6933, ← ld_v6989, ← ld_v7045]
  exact Eq.refl _

set_option maxHeartbeats 0 in
theorem y_14 : kernelRun.sl.HS6_14 c fi fx fs fw s0 s1 s2 s3 s4 = yP 13 (yL c fi fx fs fw s0 s1 s2 s4 12) :: kernelRun.sl.HS6_13 c fi fx fs fw s0 s1 s2 s3 s4 := by
  rw [yL, chunk_eq, ← ld_v1636, ← ld_v1691, ← ld_v1747, ← ld_v1803, ← ld_v1859, ← ld_v1915, ← ld_v1971, ← ld_v2027, ← ld_v7115, ← ld_v7170, ← ld_v7226, ← ld_v7282, ← ld_v7338, ← ld_v7394, ← ld_v7450, ← ld_v7506]
  exact Eq.refl _

set_option maxHeartbeats 0 in
theorem y_15 : kernelRun.sl.HS6_15 c fi fx fs fw s0 s1 s2 s3 s4 = yP 14 (yL c fi fx fs fw s0 s1 s2 s4 13) :: kernelRun.sl.HS6_14 c fi fx fs fw s0 s1 s2 s3 s4 := by
  rw [yL, chunk_eq, ← ld_v1636, ← ld_v1691, ← ld_v1747, ← ld_v1803, ← ld_v1859, ← ld_v1915, ← ld_v1971, ← ld_v2027, ← ld_v7576, ← ld_v7631, ← ld_v7687, ← ld_v7743, ← ld_v7799, ← ld_v7855, ← ld_v7911, ← ld_v7967]
  exact Eq.refl _

set_option maxHeartbeats 0 in
theorem y_16 : kernelRun.sl.HS6_16 c fi fx fs fw s0 s1 s2 s3 s4 = yP 15 (yL c fi fx fs fw s0 s1 s2 s4 14) :: kernelRun.sl.HS6_15 c fi fx fs fw s0 s1 s2 s3 s4 := by
  rw [yL, chunk_eq, ← ld_v1636, ← ld_v1691, ← ld_v1747, ← ld_v1803, ← ld_v1859, ← ld_v1915, ← ld_v1971, ← ld_v2027, ← ld_v8037, ← ld_v8092, ← ld_v8148, ← ld_v8204, ← ld_v8260, ← ld_v8316, ← ld_v8372, ← ld_v8428]
  exact Eq.refl _

end Cert.KernelIdeal.Hand

end
-- ==== Proof.LaunchIdeal.lean ====
/-
  The launch: the run of @main out of the run of its one kernel's body (RunIdeal.lean). @main reshapes the rows and the indices,
  then calls the kernel once; the kernel reads its four operands in HBM and writes its three results in HBM by its own copies.
  `frame_run` says that the program ends with its four arguments as they were and every semaphore at zero.
-/
module

public import proofs.«01_k».proof.Proof.Gen.KernelIdeal.Frame
public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds when it is called -/

/-- The results, which the body's copies write. -/
def R0 : Finset (Ref sig .tc) := {main_v2_0, main_v2_1, main_v2_2}
/-- The operands, which the body's copies read. -/
def H0 : Finset (Ref sig .tc) := {main_v1, main_v0, main_arg3, main_arg2}
theorem H0_sub : H0 ⊆ Pipeline.restRefs sig cfg0.spec := by decide
theorem R0_sub : R0 ⊆ Pipeline.restRefs sig cfg0.spec \ H0 := by decide
/-- The body's transfer semaphores. -/
abbrev osem0 : Fin 52 → SemLoc sig := fun j => SemLoc.dma j
theorem ownSemFacts0 : Pipeline.OwnSemFacts cfg0.spec osem0 := by decide

set_option maxHeartbeats 800000 in
/-- @main up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = iprop(sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51] (by decide) (by decide)]; rfl
theorem hbmPts0_eq (c : Dev nD) :
    (bigSep H0 (fun b => ((c : Thread nD τ).loc b) ↦{fullShare} V m c b) : sProp 𝕄)
      = iprop(pt c main_v1 (V m c main_v1) ∗ pt c main_v0 (V m c main_v0) ∗ pt c main_arg3 (V m c main_arg3) ∗ pt c main_arg2 (V m c main_arg2)) := by
  rw [BI.bigSep_eq_bigSepL_of_eq [main_v1, main_v0, main_arg3, main_arg2] (by decide) (by decide)]; rfl
theorem ownedPts0_eq (c : Dev nD) :
    (Pipeline.owned R0 c : sProp 𝕄)
      = iprop((∃ f, pt c main_v2_0 f) ∗ (∃ f, pt c main_v2_1 f) ∗ (∃ f, pt c main_v2_2 f)) := by
  unfold Pipeline.owned; rw [BI.bigSep_eq_bigSepL_of_eq [main_v2_0, main_v2_1, main_v2_2] (by decide) (by decide)]; rfl
theorem scoped0_eq (c : Dev nD) :
    (Pipeline.scopedRest (Ix := Unit) (Name := ℕ) (U := Pipeline.UD sig nD τ) (Lvl := ℕ) (Val := Elt F) cfg0.spec c : sProp 𝕄)
      = iprop((∃ f, pt c cc0_scratch0 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch1 f)) :=
  scopedRest0_eq c

/-- The call stages no window. -/
theorem bigSep_W0 (Φ : Fin cfg0.W → sProp 𝕄) : bigSep Finset.univ Φ = iprop(emp) := by
  rw [show (Finset.univ : Finset (Fin cfg0.W)) = ∅ from rfl]; exact bigSep_empty
theorem defs₀_row (t : Fin cfg0.N) :
    defs₀ (F := F) .tc cfg0.body (cfg0.bodyArgs t (cfg0.slots t)) = bodyAt0 t := by
  unfold defs₀; rw [Defs.onTc_tc]

/-- Everything the body holds when its results are held at some contents. -/
theorem PhiDR0_eq (c : Dev nD) :
    (Pipeline.ΦDR osem0 cfg0.spec H0 R0 (V m) c : sProp 𝕄)
      = iprop(iprop((∃ f, pt c cc0_scratch0 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch1 f))
          ∗ (∃ r, prngReg c r)
          ∗ iprop(sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51)
          ∗ iprop(pt c main_v1 (V m c main_v1) ∗ pt c main_v0 (V m c main_v0) ∗ pt c main_arg3 (V m c main_arg3) ∗ pt c main_arg2 (V m c main_arg2))
          ∗ iprop((∃ f, pt c main_v2_0 f) ∗ (∃ f, pt c main_v2_1 f) ∗ (∃ f, pt c main_v2_2 f))) := by
  rw [Pipeline.ΦDR_eq, ownSems00_eq, hbmPts0_eq, ownedPts0_eq, scoped0_eq]

/-- The proof data of the one call: no window; what the body holds. -/
def dats (_ : Fin 1) (c : Dev nD) : Dat τ (Elt F) Unit ℕ (Pipeline.UD sig nD τ) ℕ cfg0 c where
  A w := w.elim0
  after w := w.elim0
  Φ t := Pipeline.ΦDR osem0 cfg0.spec H0 R0 (V m) c
  q _ := fullShare
  owed _ := 0

theorem sound_body (c : Dev nD) (t : Fin cfg0.N) :
    iprop(Pipeline.ΦDR osem0 cfg0.spec H0 R0 (V m) c ∗ (∃ W, owes (c : Thread nD τ) 0 W))
      ⊢ wp frame (wpE (defs₀ (F := F)) Variants.none c none) Set.univ (bodyAt0 t)
          (fun _ => iprop(Pipeline.ΦDR osem0 cfg0.spec H0 R0 (V m) c ∗ (∃ W, owes (c : Thread nD τ) 0 W))) := by
  rw [PhiDR0_eq]
  iintro ⟨⟨⟨⟨%s0, S0⟩, ⟨%s2, S2⟩, ⟨%s3, S3⟩, ⟨%s4, S4⟩, ⟨%s5, S5⟩, ⟨%s6, S6⟩, ⟨%s7, S7⟩, ⟨%s8, S8⟩, ⟨%s1, S1⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51⟩, ⟨Hi, Hx, Hs, Hw⟩, ⟨⟨%y0, Hy0⟩, ⟨%y1, Hy1⟩, ⟨%y2, Hy2⟩⟩⟩, ⟨%W, HW⟩⟩
  iapply ((kernelRun c (V m c main_v1) (V m c main_v0) (V m c main_arg3) (V m c main_arg2) y0 y1 y2 s0 s1 s2 s3 s4 s5 s6 s7 s8).2 W _)
  isplitl [Hi]; · iexact Hi
  isplitl [Hx]; · iexact Hx
  isplitl [Hs]; · iexact Hs
  isplitl [Hw]; · iexact Hw
  isplitl [Hy0]; · iexact Hy0
  isplitl [Hy1]; · iexact Hy1
  isplitl [Hy2]; · iexact Hy2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [Q46]; · iexact Q46
  isplitl [Q47]; · iexact Q47
  isplitl [Q48]; · iexact Q48
  isplitl [Q49]; · iexact Q49
  isplitl [Q50]; · iexact Q50
  isplitl [Q51]; · iexact Q51
  isplitl [HW]; · iexact HW
  iintro ⟨Hi, Hx, Hs, Hw, Hy0, Hy1, Hy2, S0, S1, S2, S3, S4, S5, S6, S7, S8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, HW⟩
  isplitr [HW]
  swap; · iexact HW
  isplitl [S0 S1 S2 S3 S4 S5 S6 S7 S8]
  · isplitl [S0]; · iexact S0
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S1
  isplitl [Hg]; · iexact Hg
  isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    iexact Q51
  isplitl [Hi Hx Hs Hw]
  · isplitl [Hi]; · iexact Hi
    isplitl [Hx]; · iexact Hx
    isplitl [Hs]; · iexact Hs
    iexact Hw
  isplitl [Hy0]; · iexists _; iexact Hy0
  isplitl [Hy1]; · iexists _; iexact Hy1
  iexists _; iexact Hy2

theorem body_obligation (c : Dev nD) : BodyObligation (dats (F := F) m 0 c) (defs₀ (F := F)) Variants.none () Set.univ := fun t => by
  have ht : t = t0_0 := fin_N0 t
  subst ht
  have h0 : (dats (F := F) m 0 c).Φ t0_0.castSucc = Pipeline.ΦDR osem0 cfg0.spec H0 R0 (V m) c := rfl
  have h1 : (dats (F := F) m 0 c).Φ t0_0.succ = Pipeline.ΦDR osem0 cfg0.spec H0 R0 (V m) c := rfl
  rw [bigSep_W0, bigSep_W0, defs₀_row, h0, h1]
  unfold Dat.owesAt Pipeline.owesWithin
  refine triple_restated (sound_body m c t0_0) rfl ?_ fun _ => ?_
  · iintro ⟨HP, ⟨%W, -, HW⟩, -⟩
    isplitl [HP]; · iexact HP
    iexists W; iexact HW
  · iintro ⟨HP, ⟨%W, HW⟩⟩
    isplitl [HP]; · iexact HP
    isplitl [HW]
    · iexists W; isplitr; · ipureintro; exact fun _ _ => Or.inl trivial
      iexact HW
    iempintro

set_option backward.isDefEq.respectTransparency.types false in
theorem run_frame : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0)
    (hin := fun _ => .rfl) (hout := fun _ => .rfl)

/-- An argument array is none of the results, so it ends as it was launched. -/
theorem rest_of (b : Ref sig .tc) (h1 : b ∈ Pipeline.restRefs sig cfg0.spec) (h2 : b ∉ R0) : b ∈ Pipeline.restRefs sig cfg0.spec \ R0 :=
  Finset.mem_sdiff.mpr ⟨h1, h2⟩

/-- The program ends with its arguments as they were and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (rest_of _ (by decide) (by decide))).trans (V_main_arg0 m c),
       ((h.1 c).2 main_arg1 (rest_of _ (by decide) (by decide))).trans (V_main_arg1 m c),
       ((h.1 c).2 main_arg2 (rest_of _ (by decide) (by decide))).trans (V_main_arg2 m c),
       ((h.1 c).2 main_arg3 (rest_of _ (by decide) (by decide))).trans (V_main_arg3 m c)⟩, h.2⟩) (run_frame m ρ)

/-! ## The same with the results named -/

/-- What the run of the body on core `c` leaves in the three results, if the scratch buffers start at `s0`, …, `s8`. -/
abbrev left (c : Dev nD) (s0 : Bf (F := F) c cc0_scratch0) (s1 : Bf (F := F) c cc0_scratch1) (s2 : Bf (F := F) c cc0_scratch2) (s3 : Bf (F := F) c cc0_scratch3) (s4 : Bf (F := F) c cc0_scratch4) (s5 : Bf (F := F) c cc0_scratch5) (s6 : Bf (F := F) c cc0_scratch6) (s7 : Bf (F := F) c cc0_scratch7) (s8 : Bf (F := F) c cc0_scratch8) : Bf (F := F) c main_v2_0 × Bf (F := F) c main_v2_1 × Bf (F := F) c main_v2_2 :=
  (kernelRun c (V m c main_v1) (V m c main_v0) (V m c main_arg3) (V m c main_arg2) (V m c main_v2_0) (V m c main_v2_1) (V m c main_v2_2)
    s0 s1 s2 s3 s4 s5 s6 s7 s8).1

variable (G : (c : Dev nD) → (b : Ref sig .tc) → Buf (Elt F) ((c : Thread nD τ).loc b))

theorem routed0_eq (c : Dev nD) (W : (b : Ref sig .tc) → Buf (Elt F) ((c : Thread nD τ).loc b)) :
    (Pipeline.routed R0 c W : sProp 𝕄) = iprop(pt c main_v2_0 (W main_v2_0) ∗ pt c main_v2_1 (W main_v2_1) ∗ pt c main_v2_2 (W main_v2_2)) := by
  unfold Pipeline.routed; rw [BI.bigSep_eq_bigSepL_of_eq [main_v2_0, main_v2_1, main_v2_2] (by decide) (by decide)]; rfl

/-- Everything the body holds when its results are held at `W`. -/
theorem PhiDRG0_eq (W : (c : Dev nD) → (b : Ref sig .tc) → Buf (Elt F) ((c : Thread nD τ).loc b)) (c : Dev nD) :
    (Pipeline.ΦDRG osem0 cfg0.spec H0 R0 (V m) W c : sProp 𝕄)
      = iprop(iprop((∃ f, pt c cc0_scratch0 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch1 f))
          ∗ (∃ r, prngReg c r)
          ∗ iprop(sem c 0 ∗ sem c 1 ∗ sem c 2 ∗ sem c 3 ∗ sem c 4 ∗ sem c 5 ∗ sem c 6 ∗ sem c 7 ∗ sem c 8 ∗ sem c 9 ∗ sem c 10 ∗ sem c 11 ∗ sem c 12 ∗ sem c 13 ∗ sem c 14 ∗ sem c 15 ∗ sem c 16 ∗ sem c 17 ∗ sem c 18 ∗ sem c 19 ∗ sem c 20 ∗ sem c 21 ∗ sem c 22 ∗ sem c 23 ∗ sem c 24 ∗ sem c 25 ∗ sem c 26 ∗ sem c 27 ∗ sem c 28 ∗ sem c 29 ∗ sem c 30 ∗ sem c 31 ∗ sem c 32 ∗ sem c 33 ∗ sem c 34 ∗ sem c 35 ∗ sem c 36 ∗ sem c 37 ∗ sem c 38 ∗ sem c 39 ∗ sem c 40 ∗ sem c 41 ∗ sem c 42 ∗ sem c 43 ∗ sem c 44 ∗ sem c 45 ∗ sem c 46 ∗ sem c 47 ∗ sem c 48 ∗ sem c 49 ∗ sem c 50 ∗ sem c 51)
          ∗ iprop(pt c main_v1 (V m c main_v1) ∗ pt c main_v0 (V m c main_v0) ∗ pt c main_arg3 (V m c main_arg3) ∗ pt c main_arg2 (V m c main_arg2))
          ∗ iprop(pt c main_v2_0 (W c main_v2_0) ∗ pt c main_v2_1 (W c main_v2_1) ∗ pt c main_v2_2 (W c main_v2_2))) := by
  rw [Pipeline.ΦDRG_eq, ownSems00_eq, hbmPts0_eq, routed0_eq, scoped0_eq]

/-- The proof data of the one call: no window; what the body holds, its results at their first contents before and at `G` after. -/
def datsG (_ : Fin 1) (c : Dev nD) : Dat τ (Elt F) Unit ℕ (Pipeline.UD sig nD τ) ℕ cfg0 c where
  A w := w.elim0
  after w := w.elim0
  Φ t := match t.val with | 0 => Pipeline.ΦDRG osem0 cfg0.spec H0 R0 (V m) (V m) c | _ + 1 => Pipeline.ΦDRG osem0 cfg0.spec H0 R0 (V m) G c
  q _ := fullShare
  owed _ := 0

theorem sound_bodyG (hG : ∀ c s0 s1 s2 s3 s4 s5 s6 s7 s8, left m c s0 s1 s2 s3 s4 s5 s6 s7 s8 = (G c main_v2_0, G c main_v2_1, G c main_v2_2)) (c : Dev nD) (t : Fin cfg0.N) :
    iprop(Pipeline.ΦDRG osem0 cfg0.spec H0 R0 (V m) (V m) c ∗ (∃ W, owes (c : Thread nD τ) 0 W))
      ⊢ wp frame (wpE (defs₀ (F := F)) Variants.none c none) Set.univ (bodyAt0 t)
          (fun _ => iprop(Pipeline.ΦDRG osem0 cfg0.spec H0 R0 (V m) G c ∗ (∃ W, owes (c : Thread nD τ) 0 W))) := by
  rw [PhiDRG0_eq, PhiDRG0_eq]
  iintro ⟨⟨⟨⟨%s0, S0⟩, ⟨%s2, S2⟩, ⟨%s3, S3⟩, ⟨%s4, S4⟩, ⟨%s5, S5⟩, ⟨%s6, S6⟩, ⟨%s7, S7⟩, ⟨%s8, S8⟩, ⟨%s1, S1⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51⟩, ⟨Hi, Hx, Hs, Hw⟩, ⟨Hy0, Hy1, Hy2⟩⟩, ⟨%W, HW⟩⟩
  iapply ((kernelRun c (V m c main_v1) (V m c main_v0) (V m c main_arg3) (V m c main_arg2) (V m c main_v2_0) (V m c main_v2_1) (V m c main_v2_2) s0 s1 s2 s3 s4 s5 s6 s7 s8).2 W _)
  isplitl [Hi]; · iexact Hi
  isplitl [Hx]; · iexact Hx
  isplitl [Hs]; · iexact Hs
  isplitl [Hw]; · iexact Hw
  isplitl [Hy0]; · iexact Hy0
  isplitl [Hy1]; · iexact Hy1
  isplitl [Hy2]; · iexact Hy2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [Q46]; · iexact Q46
  isplitl [Q47]; · iexact Q47
  isplitl [Q48]; · iexact Q48
  isplitl [Q49]; · iexact Q49
  isplitl [Q50]; · iexact Q50
  isplitl [Q51]; · iexact Q51
  isplitl [HW]; · iexact HW
  iintro ⟨Hi, Hx, Hs, Hw, Hy0, Hy1, Hy2, S0, S1, S2, S3, S4, S5, S6, S7, S8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, Q46, Q47, Q48, Q49, Q50, Q51, HW⟩
  isplitr [HW]
  swap; · iexact HW
  isplitl [S0 S1 S2 S3 S4 S5 S6 S7 S8]
  · isplitl [S0]; · iexact S0
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S1
  isplitl [Hg]; · iexact Hg
  isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Q46 Q47 Q48 Q49 Q50 Q51]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    isplitl [Q46]; · iexact Q46
    isplitl [Q47]; · iexact Q47
    isplitl [Q48]; · iexact Q48
    isplitl [Q49]; · iexact Q49
    isplitl [Q50]; · iexact Q50
    iexact Q51
  isplitl [Hi Hx Hs Hw]
  · isplitl [Hi]; · iexact Hi
    isplitl [Hx]; · iexact Hx
    isplitl [Hs]; · iexact Hs
    iexact Hw
  have hl := hG c s0 s1 s2 s3 s4 s5 s6 s7 s8
  unfold left at hl
  rw [hl]
  isplitl [Hy0]; · iexact Hy0
  isplitl [Hy1]; · iexact Hy1
  iexact Hy2

theorem body_obligationG (hG : ∀ c s0 s1 s2 s3 s4 s5 s6 s7 s8, left m c s0 s1 s2 s3 s4 s5 s6 s7 s8 = (G c main_v2_0, G c main_v2_1, G c main_v2_2)) (c : Dev nD) : BodyObligation (datsG (F := F) m G 0 c) (defs₀ (F := F)) Variants.none () Set.univ := fun t => by
  have ht : t = t0_0 := fin_N0 t
  subst ht
  have h0 : (datsG (F := F) m G 0 c).Φ t0_0.castSucc = Pipeline.ΦDRG osem0 cfg0.spec H0 R0 (V m) (V m) c := rfl
  have h1 : (datsG (F := F) m G 0 c).Φ t0_0.succ = Pipeline.ΦDRG osem0 cfg0.spec H0 R0 (V m) G c := rfl
  rw [bigSep_W0, bigSep_W0, defs₀_row, h0, h1]
  unfold Dat.owesAt Pipeline.owesWithin
  refine triple_restated (sound_bodyG m G hG c t0_0) rfl ?_ fun _ => ?_
  · iintro ⟨HP, ⟨%W, -, HW⟩, -⟩
    isplitl [HP]; · iexact HP
    iexists W; iexact HW
  · iintro ⟨HP, ⟨%W, HW⟩⟩
    isplitl [HP]; · iexact HP
    isplitl [HW]
    · iexists W; isplitr; · ipureintro; exact fun _ _ => Or.inl trivial
      iexact HW
    iempintro

set_option backward.isDefEq.respectTransparency.types false in
/-- The run, the results at the contents `G` the body is known to leave in them. -/
theorem run_main (hG : ∀ c s0 s1 s2 s3 s4 s5 s6 s7 s8, left m c s0 s1 s2 s3 s4 s5 s6 s7 s8 = (G c main_v2_0, G c main_v2_1, G c main_v2_2)) :
    θ_run defs (onTc (τ := τ) (main (F := F))) (s₀ m ρ) (fun r => Pipeline.FramePostRG cfgs (datsG m G) 0 R0 (V m) G r ∧ r.2.sem = fun _ => 0) :=
  Pipeline.θ_run_frame_dmaRG (Q' := _) cfgs (datsG m G) (0 : Fin 1) launch0 osem0 defs₀ Variants.none ownSemFacts0 H0 R0 H0_sub R0_sub m ρ main
    (hbody := fun c => (body_obligationG m G hG c).loose) (hshare := fun c => (datsG m G 0 c).share_full fun _ => rfl)
    (howed := fun _ _ => rfl) (V := V m) (hmain := hmain m Variants.none) (hA := fun _ w => w.elim0) (G := G)
    (hin := fun _ => .rfl) (hout := fun _ => .rfl)

end Cert.KernelIdeal.Hand

end
-- ==== Proof.Arrays.lean ====
/-
  What the kernel leaves in its three result arrays, entry by entry: the stored pieces put together.
-/
module

public import proofs.«01_k».proof.Proof.Loads
public import proofs.«01_k».proof.Proof.Chunks
public import proofs.«01_k».proof.Proof.LaunchIdeal

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]
variable (c : Dev nD) (fi : Bf (F := F) c main_v1) (fx : Bf (F := F) c main_v0) (fs : Bf (F := F) c main_arg3) (fw : Bf (F := F) c main_arg2)
  (y0 : Bf (F := F) c main_v2_0) (y1 : Bf (F := F) c main_v2_1) (y2 : Bf (F := F) c main_v2_2)
  (s0 : Bf (F := F) c cc0_scratch0) (s1 : Bf (F := F) c cc0_scratch1) (s2 : Bf (F := F) c cc0_scratch2) (s3 : Bf (F := F) c cc0_scratch3)
  (s4 : Bf (F := F) c cc0_scratch4) (s5 : Bf (F := F) c cc0_scratch5) (s6 : Bf (F := F) c cc0_scratch6) (s7 : Bf (F := F) c cc0_scratch7)
  (s8 : Bf (F := F) c cc0_scratch8)

set_option maxHeartbeats 0 in
/-- The run's three results as it wrote them. -/
theorem run_y : (kernelRun c fi fx fs fw y0 y1 y2 s0 s1 s2 s3 s4 s5 s6 s7 s8).1.1 = (Memref.whole main_v2_0).view.writes (Elt F) y0
    [⟨Rect.unit (s := S192x8192) ![0, 7680] S192x512.size inb_S192x8192_S192x512_0_7680, kernelRun.sl.dma1393 c fi fx fs fw s0 s1 s2 s3 s4 s6⟩,
      ⟨Rect.unit (s := S192x8192) ![0, 7168] S192x512.size inb_S192x8192_S192x512_0_7168, kernelRun.sl.dma1311 c fi fx fs fw s0 s1 s2 s3 s4 s6⟩,
      ⟨Rect.unit (s := S192x8192) ![0, 6656] S192x512.size inb_S192x8192_S192x512_0_6656, kernelRun.sl.dma1229 c fi fx fs fw s0 s1 s2 s3 s4 s6⟩,
      ⟨Rect.unit (s := S192x8192) ![0, 6144] S192x512.size inb_S192x8192_S192x512_0_6144, kernelRun.sl.dma1147 c fi fx fs fw s0 s1 s2 s3 s4 s6⟩,
      ⟨Rect.unit (s := S192x8192) ![0, 5632] S192x512.size inb_S192x8192_S192x512_0_5632, kernelRun.sl.dma1065 c fi fx fs fw s0 s1 s2 s3 s4 s6⟩,
      ⟨Rect.unit (s := S192x8192) ![0, 5120] S192x512.size inb_S192x8192_S192x512_0_5120, kernelRun.sl.dma983 c fi fx fs fw s0 s1 s2 s3 s4 s6⟩,
      ⟨Rect.unit (s := S192x8192) ![0, 4608] S192x512.size inb_S192x8192_S192x512_0_4608, kernelRun.sl.dma901 c fi fx fs fw s0 s1 s2 s3 s4 s6⟩,
      ⟨Rect.unit (s := S192x8192) ![0, 4096] S192x512.size inb_S192x8192_S192x512_0_4096, kernelRun.sl.dma819 c fi fx fs fw s0 s1 s2 s3 s4 s6⟩,
      ⟨Rect.unit (s := S192x8192) ![0, 3584] S192x512.size inb_S192x8192_S192x512_0_3584, kernelRun.sl.dma737 c fi fx fs fw s0 s1 s2 s3 s4 s6⟩,
      ⟨Rect.unit (s := S192x8192) ![0, 3072] S192x512.size inb_S192x8192_S192x512_0_3072, kernelRun.sl.dma655 c fi fx fs fw s0 s1 s2 s3 s4 s6⟩,
      ⟨Rect.unit (s := S192x8192) ![0, 2560] S192x512.size inb_S192x8192_S192x512_0_2560, kernelRun.sl.dma573 c fi fx fs fw s0 s1 s2 s3 s4 s6⟩,
      ⟨Rect.unit (s := S192x8192) ![0, 2048] S192x512.size inb_S192x8192_S192x512_0_2048, kernelRun.sl.dma491 c fi fx fs fw s0 s1 s2 s3 s4 s6⟩,
      ⟨Rect.unit (s := S192x8192) ![0, 1536] S192x512.size inb_S192x8192_S192x512_0_1536, kernelRun.sl.dma409 c fi fx fs fw s0 s1 s2 s3 s4 s6⟩,
      ⟨Rect.unit (s := S192x8192) ![0, 1024] S192x512.size inb_S192x8192_S192x512_0_1024, kernelRun.sl.dma327 c fi fx fs fw s0 s1 s2 s3 s4 s6⟩,
      ⟨Rect.unit (s := S192x8192) ![0, 512] S192x512.size inb_S192x8192_S192x512_0_512, kernelRun.sl.dma245 c fi fx fs fw s0 s1 s2 s3 s4 s6⟩,
      ⟨Rect.unit (s := S192x8192) ![0, 0] S192x512.size inb_S192x8192_S192x512_0_0, kernelRun.sl.dma163 c fi fx fs fw s0 s1 s2 s3 s6⟩] := by
  delta kernelRun
  exact Eq.refl _

theorem run_codes : (kernelRun c fi fx fs fw y0 y1 y2 s0 s1 s2 s3 s4 s5 s6 s7 s8).1.2.1 = View.write (Elt F) (Memref.whole main_v2_1).view y1 (kernelRun.sl.dma163_1 c fi fx s0 s2 s7) Finset.univ := by
  delta kernelRun
  exact Eq.refl _

theorem run_scales : (kernelRun c fi fx fs fw y0 y1 y2 s0 s1 s2 s3 s4 s5 s6 s7 s8).1.2.2 = View.write (Elt F) (Memref.whole main_v2_2).view y2 (kernelRun.sl.dma163_2 c fi fx s0 s2 s8) Finset.univ := by
  delta kernelRun
  exact Eq.refl _

/-- The sixteen groups, last first. -/
def groups : List (Fin 8 × Fin 2) :=
  [(7, 1), (7, 0), (6, 1), (6, 0), (5, 1), (5, 0), (4, 1), (4, 0), (3, 1), (3, 0), (2, 1), (2, 0), (1, 1), (1, 0), (0, 1), (0, 0)]

theorem mem_groups (p : Fin 8 × Fin 2) : p ∈ groups := by revert p; decide

theorem codes_all : kernelRun.sl.HS7_16 c fi fx s0 s2 = groups.map fun p => codP c fi fx s0 s2 p.1 p.2 := by
  rw [codes_16, codes_15, codes_14, codes_13, codes_12, codes_11, codes_10, codes_9, codes_8, codes_7, codes_6, codes_5, codes_4, codes_3, codes_2, codes_1]
  exact Eq.refl _

theorem scales_all : kernelRun.sl.HS8_16 c fi fx s0 s2 = groups.map fun p => sclP c fi fx s0 s2 p.1 p.2 := by
  rw [scales_16, scales_15, scales_14, scales_13, scales_12, scales_11, scales_10, scales_9, scales_8, scales_7, scales_6, scales_5, scales_4, scales_3, scales_2, scales_1]
  exact Eq.refl _

/-- The codes the run leaves. -/
theorem codes_left (k : Fin 8) (g : Fin 2) (r : Fin 192) (j : Fin 128) :
    (kernelRun c fi fx fs fw y0 y1 y2 s0 s1 s2 s3 s4 s5 s6 s7 s8).1.2.1 (ix2 r ⟨256 * k.1 + 128 * g.1 + j.1, by omega⟩) = cod (half (selL c fi fx s0 s2 k) g) (ix2 r j) := by
  have h : (kernelRun c fi fx fs fw y0 y1 y2 s0 s1 s2 s3 s4 s5 s6 s7 s8).1.2.1 = View.read (Elt F) (Memref.whole cc0_scratch7).view
      ((Memref.whole cc0_scratch7).view.writes (Elt F) s7 (kernelRun.sl.HS7_16 c fi fx s0 s2)) :=
    (run_codes c fi fx fs fw y0 y1 y2 s0 s1 s2 s3 s4 s5 s6 s7 s8).trans (View.write_whole_univ ..)
  rw [h, codes_all]
  have he : (ix2 r ⟨256 * k.1 + 128 * g.1 + j.1, by omega⟩ : S192x2048.Idx) = (codP c fi fx s0 s2 k g).1.emb (ix2 r j) :=
    (unit_emb2 0 (256 * k.1 + 128 * g.1) (inb2 (A := 192) (B := 2048) 0 (256 * k.1 + 128 * g.1) (by omega) (by omega)) r j r _ (by simp) rfl).symm
  rw [he]
  refine (read_stored (Memref.whole cc0_scratch7).view _ (fun p : Fin 8 × Fin 2 => codP c fi fx s0 s2 p.1 p.2) (k, g) (ix2 r j) ?_ groups (mem_groups _)).trans ?_
  · intro n hn
    refine Rect.not_mem_set_of_axis _ _ 1 (256 * n.1.1 + 128 * n.2.1) 128 rfl rfl rfl ?_
    show 256 * k.1 + 128 * g.1 + 1 * j.val < _ ∨ _ ≤ 256 * k.1 + 128 * g.1 + 1 * j.val
    have h2 : n.1.val ≠ k.val ∨ n.2.val ≠ g.val := by
      by_contra hc
      push Not at hc
      exact hn (Prod.ext (Fin.ext hc.1) (Fin.ext hc.2))
    omega
  · exact congrFun (shapeCast_self (cod (half (selL c fi fx s0 s2 k) g)) shapeCasts_S192x128_S192x128) _

/-- The scales the run leaves. -/
theorem scales_left (k : Fin 8) (g : Fin 2) (r : Fin 192) :
    (kernelRun c fi fx fs fw y0 y1 y2 s0 s1 s2 s3 s4 s5 s6 s7 s8).1.2.2 (ix2 r ⟨2 * k.1 + g.1, by omega⟩) = scl (half (selL c fi fx s0 s2 k) g) (ix2 r 0) := by
  have h : (kernelRun c fi fx fs fw y0 y1 y2 s0 s1 s2 s3 s4 s5 s6 s7 s8).1.2.2 = View.read (Elt F) (Memref.whole cc0_scratch8).view
      ((Memref.whole cc0_scratch8).view.writes (Elt F) s8 (kernelRun.sl.HS8_16 c fi fx s0 s2)) :=
    (run_scales c fi fx fs fw y0 y1 y2 s0 s1 s2 s3 s4 s5 s6 s7 s8).trans (View.write_whole_univ ..)
  rw [h, scales_all]
  have he : (ix2 r ⟨2 * k.1 + g.1, by omega⟩ : S192x16.Idx) = (sclP c fi fx s0 s2 k g).1.emb (ix2 r (0 : Fin 1)) :=
    (unit_emb2 0 (2 * k.1 + g.1) (inb2 (A := 192) (B := 16) 0 (2 * k.1 + g.1) (by omega) (by omega)) r (0 : Fin 1) r _ (by simp) rfl).symm
  rw [he]
  refine (read_stored (Memref.whole cc0_scratch8).view _ (fun p : Fin 8 × Fin 2 => sclP c fi fx s0 s2 p.1 p.2) (k, g) (ix2 r (0 : Fin 1)) ?_ groups (mem_groups _)).trans ?_
  · intro n hn
    refine Rect.not_mem_set_of_axis _ _ 1 (2 * n.1.1 + n.2.1) 1 rfl rfl rfl ?_
    show 2 * k.1 + g.1 + 1 * 0 < _ ∨ _ ≤ 2 * k.1 + g.1 + 1 * 0
    have h2 : n.1.val ≠ k.val ∨ n.2.val ≠ g.val := by
      by_contra hc
      push Not at hc
      exact hn (Prod.ext (Fin.ext hc.1) (Fin.ext hc.2))
    omega
  · exact congrFun (shapeCast_self (scl (half (selL c fi fx s0 s2 k) g)) shapeCasts_S192x1_S192x1) _

/-! ## The product -/

/-- Chunk `q` as stored. -/
def yC (q : Fin 16) : FVec F S192x512 .bf16 :=
  Fin.cases (y0L c fi fx fs fw s0 s1 s2 s3) (yL c fi fx fs fw s0 s1 s2 s4) q

/-- A slot of the staging buffer just stored reads back what was stored. -/
theorem slot_read (q : Fin 16) (hin) (pf) (f : Bf (F := F) c cc0_scratch6) (v : FVec F S192x512 .bf16) (L : List (View.Piece (Elt F) S16x192x512 .bf16)) :
    (ReadAs.same.apply (View.read (Elt F) (((Memref.whole cc0_scratch6).slice (Rect.unit (s := S16x192x512) ![q.1, 0, 0] S1x192x512.size hin) pf).squeeze S192x512 squeezes_S1x192x512_S192x512).view
      ((Memref.whole cc0_scratch6).view.writes (Elt F) f (yP q v :: L)))) = v := by
  funext i
  show View.read (Elt F) (((Memref.whole cc0_scratch6).slice (Rect.unit (s := S16x192x512) ![q.1, 0, 0] S1x192x512.size hin) pf)).view
      ((Memref.whole cc0_scratch6).view.writes (Elt F) f (yP q v :: L)) (Shape.reshapeEquiv squeezes_S1x192x512_S192x512.numel_eq i) = v i
  refine (View.read_writes_cons_emb (Memref.whole cc0_scratch6).view (f := f) (yP q v).1 (yP q v).2 L (Shape.reshapeEquiv squeezes_S1x192x512_S192x512.numel_eq i)).trans ?_
  show v (Shape.reshapeEquiv _ (Shape.reshapeEquiv _ i)) = v i
  congr 1
  exact (Shape.reshapeEquiv_eq_of_rowMajor _ (by rw [Shape.rowMajor_reshapeEquiv]))

theorem slot_0 : kernelRun.sl.dma163 c fi fx fs fw s0 s1 s2 s3 s6 = yC c fi fx fs fw s0 s1 s2 s3 s4 0 := by
  unfold kernelRun.sl.dma163
  rw [y_1]
  exact slot_read c 0 _ _ s6 _ _

theorem slot_1 : kernelRun.sl.dma245 c fi fx fs fw s0 s1 s2 s3 s4 s6 = yC c fi fx fs fw s0 s1 s2 s3 s4 1 := by
  unfold kernelRun.sl.dma245
  rw [y_2]
  exact slot_read c 1 _ _ s6 _ _

theorem slot_2 : kernelRun.sl.dma327 c fi fx fs fw s0 s1 s2 s3 s4 s6 = yC c fi fx fs fw s0 s1 s2 s3 s4 2 := by
  unfold kernelRun.sl.dma327
  rw [y_3]
  exact slot_read c 2 _ _ s6 _ _

theorem slot_3 : kernelRun.sl.dma409 c fi fx fs fw s0 s1 s2 s3 s4 s6 = yC c fi fx fs fw s0 s1 s2 s3 s4 3 := by
  unfold kernelRun.sl.dma409
  rw [y_4]
  exact slot_read c 3 _ _ s6 _ _

theorem slot_4 : kernelRun.sl.dma491 c fi fx fs fw s0 s1 s2 s3 s4 s6 = yC c fi fx fs fw s0 s1 s2 s3 s4 4 := by
  unfold kernelRun.sl.dma491
  rw [y_5]
  exact slot_read c 4 _ _ s6 _ _

theorem slot_5 : kernelRun.sl.dma573 c fi fx fs fw s0 s1 s2 s3 s4 s6 = yC c fi fx fs fw s0 s1 s2 s3 s4 5 := by
  unfold kernelRun.sl.dma573
  rw [y_6]
  exact slot_read c 5 _ _ s6 _ _

theorem slot_6 : kernelRun.sl.dma655 c fi fx fs fw s0 s1 s2 s3 s4 s6 = yC c fi fx fs fw s0 s1 s2 s3 s4 6 := by
  unfold kernelRun.sl.dma655
  rw [y_7]
  exact slot_read c 6 _ _ s6 _ _

theorem slot_7 : kernelRun.sl.dma737 c fi fx fs fw s0 s1 s2 s3 s4 s6 = yC c fi fx fs fw s0 s1 s2 s3 s4 7 := by
  unfold kernelRun.sl.dma737
  rw [y_8]
  exact slot_read c 7 _ _ s6 _ _

theorem slot_8 : kernelRun.sl.dma819 c fi fx fs fw s0 s1 s2 s3 s4 s6 = yC c fi fx fs fw s0 s1 s2 s3 s4 8 := by
  unfold kernelRun.sl.dma819
  rw [y_9]
  exact slot_read c 8 _ _ s6 _ _

theorem slot_9 : kernelRun.sl.dma901 c fi fx fs fw s0 s1 s2 s3 s4 s6 = yC c fi fx fs fw s0 s1 s2 s3 s4 9 := by
  unfold kernelRun.sl.dma901
  rw [y_10]
  exact slot_read c 9 _ _ s6 _ _

theorem slot_10 : kernelRun.sl.dma983 c fi fx fs fw s0 s1 s2 s3 s4 s6 = yC c fi fx fs fw s0 s1 s2 s3 s4 10 := by
  unfold kernelRun.sl.dma983
  rw [y_11]
  exact slot_read c 10 _ _ s6 _ _

theorem slot_11 : kernelRun.sl.dma1065 c fi fx fs fw s0 s1 s2 s3 s4 s6 = yC c fi fx fs fw s0 s1 s2 s3 s4 11 := by
  unfold kernelRun.sl.dma1065
  rw [y_12]
  exact slot_read c 11 _ _ s6 _ _

theorem slot_12 : kernelRun.sl.dma1147 c fi fx fs fw s0 s1 s2 s3 s4 s6 = yC c fi fx fs fw s0 s1 s2 s3 s4 12 := by
  unfold kernelRun.sl.dma1147
  rw [y_13]
  exact slot_read c 12 _ _ s6 _ _

theorem slot_13 : kernelRun.sl.dma1229 c fi fx fs fw s0 s1 s2 s3 s4 s6 = yC c fi fx fs fw s0 s1 s2 s3 s4 13 := by
  unfold kernelRun.sl.dma1229
  rw [y_14]
  exact slot_read c 13 _ _ s6 _ _

theorem slot_14 : kernelRun.sl.dma1311 c fi fx fs fw s0 s1 s2 s3 s4 s6 = yC c fi fx fs fw s0 s1 s2 s3 s4 14 := by
  unfold kernelRun.sl.dma1311
  rw [y_15]
  exact slot_read c 14 _ _ s6 _ _

theorem slot_15 : kernelRun.sl.dma1393 c fi fx fs fw s0 s1 s2 s3 s4 s6 = yC c fi fx fs fw s0 s1 s2 s3 s4 15 := by
  unfold kernelRun.sl.dma1393
  rw [y_16]
  exact slot_read c 15 _ _ s6 _ _

/-- Chunk `q` in the result array. -/
def outP (q : Fin 16) : View.Piece (Elt F) S192x8192 .bf16 :=
  ⟨Rect.unit (s := S192x8192) ![0, 512 * q.1] S192x512.size (inb2 (A := 192) (B := 8192) 0 (512 * q.1) (by omega) (by omega)),
    yC c fi fx fs fw s0 s1 s2 s3 s4 q⟩

theorem mem_chunks (q : Fin 16) : q ∈ ([15, 14, 13, 12, 11, 10, 9, 8, 7, 6, 5, 4, 3, 2, 1, 0] : List (Fin 16)) := by revert q; decide

set_option maxHeartbeats 0 in
/-- The product the run leaves. -/
theorem y_left (q : Fin 16) (r : Fin 192) (j : Fin 512) :
    (kernelRun c fi fx fs fw y0 y1 y2 s0 s1 s2 s3 s4 s5 s6 s7 s8).1.1 (ix2 r ⟨512 * q.1 + j.1, by omega⟩) = yC c fi fx fs fw s0 s1 s2 s3 s4 q (ix2 r j) := by
  have h : (kernelRun c fi fx fs fw y0 y1 y2 s0 s1 s2 s3 s4 s5 s6 s7 s8).1.1 = (Memref.whole main_v2_0).view.writes (Elt F) y0
      ([15, 14, 13, 12, 11, 10, 9, 8, 7, 6, 5, 4, 3, 2, 1, 0].map (outP c fi fx fs fw s0 s1 s2 s3 s4)) := by
    rw [run_y, slot_0, slot_1, slot_2, slot_3, slot_4, slot_5, slot_6, slot_7, slot_8, slot_9, slot_10, slot_11, slot_12, slot_13, slot_14, slot_15]
    exact Eq.refl _
  rw [h]
  have he : (ix2 r ⟨512 * q.1 + j.1, by omega⟩ : S192x8192.Idx) = (outP c fi fx fs fw s0 s1 s2 s3 s4 q).1.emb (ix2 r j) :=
    (unit_emb2 0 (512 * q.1) (inb2 (A := 192) (B := 8192) 0 (512 * q.1) (by omega) (by omega)) r j r _ (by simp) rfl).symm
  rw [he]
  refine (read_stored (Memref.whole main_v2_0).view _ (outP c fi fx fs fw s0 s1 s2 s3 s4) q (ix2 r j) ?_ [15, 14, 13, 12, 11, 10, 9, 8, 7, 6, 5, 4, 3, 2, 1, 0] (mem_chunks q))
  intro n hn
  refine Rect.not_mem_set_of_axis _ _ 1 (512 * n.1) 512 rfl rfl rfl ?_
  show 512 * q.1 + 1 * j.val < _ ∨ _ ≤ 512 * q.1 + 1 * j.val
  have h2 : n.1 ≠ q.1 := fun h => hn (Fin.ext h)
  omega

end Cert.KernelIdeal.Hand

end
-- ==== Proof.Spec.lean ====
/-
  What the three results are, as plain functions of a row of activations, the weights and the weights' scales. The scale and its inverse are
  parameters here: the kernel and the reference find them in different ways.
-/
module

public import proofs.«01_k».proof.Proof.Quant

@[expose] public section

noncomputable section

namespace Cert.Quant

/-- The group of 128 that column `c` of 2048 lies in. -/
abbrev grp (c : Fin 2048) : Fin 16 := ⟨c.1 / 128, by omega⟩

/-- The block of 128 that column `o` of 8192 lies in. -/
abbrev blk (o : Fin 8192) : Fin 64 := ⟨o.1 / 128, by omega⟩

/-- Group `b` of a row. -/
def part (x : Fin 2048 → EReal) (b : Fin 16) : Fin 128 → EReal := fun j => x ⟨128 * b.1 + j.1, by omega⟩

/-- The code at column `c`: the entry times the inverse scale of its group, clipped to ±448. -/
def code (inv : EReal → EReal) (x : Fin 2048 → EReal) (c : Fin 2048) : EReal :=
  min (lit 0x43E00000#32) (max (lit 0xC3E00000#32) (x c * inv (gmax (part x (grp c)))))

/-- The row's entry rebuilt from its code. -/
def rebuilt (scale inv : EReal → EReal) (x : Fin 2048 → EReal) (c : Fin 2048) : EReal :=
  code inv x c * scale (gmax (part x (grp c)))

/-- One entry of the product of a rebuilt row with the scaled weights. -/
def prod (scale inv : EReal → EReal) (x : Fin 2048 → EReal) (w : Fin 2048 → Fin 8192 → EReal) (s : Fin 16 → Fin 64 → EReal) (o : Fin 8192) : EReal :=
  ∑ c : Fin 2048, rebuilt scale inv x c * (w c o * s (grp c) (blk o))

theorem code_agree {i i' : EReal → EReal} (x : Fin 2048 → EReal) (h : ∀ b, i (gmax (part x b)) = i' (gmax (part x b))) (c : Fin 2048) :
    code i x c = code i' x c := by
  unfold code
  rw [h]

theorem prod_agree {s i s' i' : EReal → EReal} (x : Fin 2048 → EReal) (hs : ∀ b, s (gmax (part x b)) = s' (gmax (part x b)))
    (hi : ∀ b, i (gmax (part x b)) = i' (gmax (part x b))) (w : Fin 2048 → Fin 8192 → EReal) (t : Fin 16 → Fin 64 → EReal) (o : Fin 8192) :
    prod s i x w t o = prod s' i' x w t o := by
  unfold prod rebuilt
  refine Finset.sum_congr rfl fun c _ => ?_
  rw [hs, code_agree x hi]

end Cert.Quant

end
-- ==== Proof.KernelValue.lean ====
/-
  What the kernel leaves in its three results over the extended reals, as the plain functions of the rows the indices name.
-/
module

public import proofs.«01_k».proof.Proof.Point
public import proofs.«01_k».proof.Proof.Arrays
public import proofs.«01_k».proof.Proof.Spec

@[expose] public section

set_option maxRecDepth 16384

noncomputable section

namespace Cert.KernelIdeal.Hand

open Cert.KernelIdeal Cert.KernelIdeal.Gen Cert.Quant
open Idealize.ShloMosaic Idealize.ShloMosaic.TcCoe Idealize.SL.Sem Idealize.ShloMosaic.ValueIdx

/-- A sum over 2048 taken in 8 runs of 256. -/
theorem sum_runs (f : Fin 2048 → EReal) : (∑ k : Fin 8, ∑ i : Fin 256, f ⟨256 * k.1 + i.1, by omega⟩) = ∑ c : Fin 2048, f c := by
  rw [← (finProdFinEquiv (m := 8) (n := 256)).sum_comp, Fintype.sum_prod_type]
  refine Finset.sum_congr rfl fun k _ => Finset.sum_congr rfl fun i _ => congrArg f (Fin.ext ?_)
  show 256 * k.1 + i.1 = i.1 + 256 * k.1
  omega

variable (c : Dev nD) (fi : Bf (F := Ideal) c main_v1) (fx : Bf (F := Ideal) c main_v0) (fs : Bf (F := Ideal) c main_arg3) (fw : Bf (F := Ideal) c main_arg2)
  (y0 : Bf (F := Ideal) c main_v2_0) (y1 : Bf (F := Ideal) c main_v2_1) (y2 : Bf (F := Ideal) c main_v2_2)
  (s0 : Bf (F := Ideal) c cc0_scratch0) (s1 : Bf (F := Ideal) c cc0_scratch1) (s2 : Bf (F := Ideal) c cc0_scratch2) (s3 : Bf (F := Ideal) c cc0_scratch3)
  (s4 : Bf (F := Ideal) c cc0_scratch4) (s5 : Bf (F := Ideal) c cc0_scratch5) (s6 : Bf (F := Ideal) c cc0_scratch6) (s7 : Bf (F := Ideal) c cc0_scratch7)
  (s8 : Bf (F := Ideal) c cc0_scratch8)
  (n : Fin 192 → Fin 512) (hn : ∀ r, fi (ix2 (0 : Fin 1) r) = BitVec.ofNat 32 (n r).val)

/-- The row of activations that index `r` names. -/
abbrev named (r : Fin 192) : Fin 2048 → EReal := fun j => fx (ix2 (n r) j)

include hn

theorem selL_apply (k : Fin 8) (r : Fin 192) (j : Fin 256) :
    selL c fi fx s0 s2 k (ix2 r j) = named c fx n r ⟨256 * k.1 + j.1, by omega⟩ := by
  refine (sel_apply (idsL c fi s0) (xL c fx s2 k) r j (n r) ((idsL_eq c fi s0 r).trans (hn r))).trans ?_
  exact xL_eq c fx s2 k 0 (n r) j

theorem entry_apply (k : Fin 8) (g : Fin 2) (r : Fin 192) (j : Fin 128) :
    half (selL c fi fx s0 s2 k) g (ix2 r j) = named c fx n r ⟨256 * k.1 + 128 * g.1 + j.1, by omega⟩ := by
  rw [half_apply, selL_apply c fi fx s0 s2 n hn]
  exact congrArg (named c fx n r) (Fin.ext (by show 256 * k.1 + (128 * g.1 + j.1) = 256 * k.1 + 128 * g.1 + j.1; omega))

theorem group_row (k : Fin 8) (g : Fin 2) (r : Fin 192) :
    row (half (selL c fi fx s0 s2 k) g) r = Quant.part (named c fx n r) ⟨2 * k.1 + g.1, by omega⟩ := by
  funext j
  refine (entry_apply c fi fx s0 s2 n hn k g r j).trans ?_
  exact congrArg (named c fx n r) (Fin.ext (by show 256 * k.1 + 128 * g.1 + j.1 = 128 * (2 * k.1 + g.1) + j.1; omega))

theorem grp_at (k : Fin 8) (g : Fin 2) (j : Fin 128) : grp ⟨256 * k.1 + 128 * g.1 + j.1, by omega⟩ = ⟨2 * k.1 + g.1, by omega⟩ :=
  Fin.ext (by show (256 * k.1 + 128 * g.1 + j.1) / 128 = 2 * k.1 + g.1; omega)

theorem code_at (k : Fin 8) (g : Fin 2) (r : Fin 192) (j : Fin 128) :
    cod (half (selL c fi fx s0 s2 k) g) (ix2 r j) = code kinv (named c fx n r) ⟨256 * k.1 + 128 * g.1 + j.1, by omega⟩ := by
  rw [cod_apply, group_row c fi fx s0 s2 n hn, entry_apply c fi fx s0 s2 n hn]
  unfold code
  rw [grp_at c fi n hn]

theorem rebuilt_at (k : Fin 8) (g : Fin 2) (r : Fin 192) (j : Fin 128) :
    deq (half (selL c fi fx s0 s2 k) g) (ix2 r j) = rebuilt kscale kinv (named c fx n r) ⟨256 * k.1 + 128 * g.1 + j.1, by omega⟩ := by
  rw [deq_apply, code_at c fi fx s0 s2 n hn, group_row c fi fx s0 s2 n hn]
  unfold rebuilt
  rw [grp_at c fi n hn]

/-- The codes. -/
theorem codes_value (r : Fin 192) (o : Fin 2048) :
    (kernelRun c fi fx fs fw y0 y1 y2 s0 s1 s2 s3 s4 s5 s6 s7 s8).1.2.1 (ix2 r o) = code kinv (named c fx n r) o := by
  have ho := o.isLt
  have e : o = ⟨256 * (o.1 / 256) + 128 * (o.1 % 256 / 128) + o.1 % 128, by omega⟩ := Fin.ext (by show o.1 = 256 * (o.1 / 256) + 128 * (o.1 % 256 / 128) + o.1 % 128; omega)
  have h := (codes_left c fi fx fs fw y0 y1 y2 s0 s1 s2 s3 s4 s5 s6 s7 s8 ⟨o.1 / 256, by omega⟩ ⟨o.1 % 256 / 128, by omega⟩ r ⟨o.1 % 128, by omega⟩).trans
    (code_at c fi fx s0 s2 n hn _ _ r _)
  rw [e]
  exact h

/-- The scales. -/
theorem scales_value (r : Fin 192) (b : Fin 16) :
    (kernelRun c fi fx fs fw y0 y1 y2 s0 s1 s2 s3 s4 s5 s6 s7 s8).1.2.2 (ix2 r b) = kscale (gmax (Quant.part (named c fx n r) b)) := by
  have hb := b.isLt
  have e : b = ⟨2 * (b.1 / 2) + b.1 % 2, by omega⟩ := Fin.ext (by show b.1 = 2 * (b.1 / 2) + b.1 % 2; omega)
  have h := (scales_left c fi fx fs fw y0 y1 y2 s0 s1 s2 s3 s4 s5 s6 s7 s8 ⟨b.1 / 2, by omega⟩ ⟨b.1 % 2, by omega⟩ r).trans
    ((scl_apply _ r).trans (congrArg (fun v => kscale (gmax v)) (group_row c fi fx s0 s2 n hn _ _ r)))
  rw [e]
  exact h

omit hn in
/-- Every chunk of columns is one and the same product, over its own tiles of weights. -/
theorem yC_eq (q : Fin 16) : ∃ w : Fin 8 → Vec Ideal S1x256x512 .fp8e4m3,
    (∀ k m j, w k (ix3 (0 : Fin 1) m j) = fw (ix2 ⟨256 * k.1 + m.1, by omega⟩ ⟨512 * q.1 + j.1, by omega⟩))
      ∧ yC c fi fx fs fw s0 s1 s2 s3 s4 q = chunk (fun k => xblk (selL c fi fx s0 s2 k)) w (scaleL c fs s1) q := by
  refine Fin.cases ?_ (fun q => ?_) q
  · refine ⟨w0L c fw s3, fun k m j => (w0L_eq c fw s3 k 0 m j).trans ?_, rfl⟩
    refine congrArg (fun o => fw (ix2 _ o)) (Fin.ext ?_)
    show j.1 = 512 * 0 + j.1
    omega
  · refine ⟨wL c fw s4 q, fun k m j => (wL_eq c fw s4 q k 0 m j).trans ?_, ?_⟩
    · refine congrArg (fun o => fw (ix2 _ o)) (Fin.ext ?_)
      show 512 * q.1 + 512 + j.1 = 512 * (q.1 + 1) + j.1
      omega
    · have hx : xbL c fi fx s0 s2 = fun k => xblk (selL c fi fx s0 s2 k) := funext fun k => xbL_eq c fi fx s0 s2 k
      show yL c fi fx fs fw s0 s1 s2 s4 q = _
      unfold yL
      rw [hx]
      rfl

/-- The product. -/
theorem prod_value (r : Fin 192) (o : Fin 8192) :
    (kernelRun c fi fx fs fw y0 y1 y2 s0 s1 s2 s3 s4 s5 s6 s7 s8).1.1 (ix2 r o)
      = prod kscale kinv (named c fx n r) (fun a b => fw (ix2 a b)) (fun a b => fs (ix2 a b)) o := by
  have ho := o.isLt
  obtain ⟨w, hw, hy⟩ := yC_eq c fi fx fs fw s0 s1 s2 s3 s4 ⟨o.1 / 512, by omega⟩
  have e : o = ⟨512 * (o.1 / 512) + o.1 % 512, by omega⟩ := Fin.ext (by show o.1 = 512 * (o.1 / 512) + o.1 % 512; omega)
  have h := y_left c fi fx fs fw y0 y1 y2 s0 s1 s2 s3 s4 s5 s6 s7 s8 ⟨o.1 / 512, by omega⟩ r ⟨o.1 % 512, by omega⟩
  have h' : (kernelRun c fi fx fs fw y0 y1 y2 s0 s1 s2 s3 s4 s5 s6 s7 s8).1.1 (ix2 r o)
      = yC c fi fx fs fw s0 s1 s2 s3 s4 ⟨o.1 / 512, by omega⟩ (ix2 r ⟨o.1 % 512, by omega⟩) :=
    (congrArg (fun o => (kernelRun c fi fx fs fw y0 y1 y2 s0 s1 s2 s3 s4 s5 s6 s7 s8).1.1 (ix2 r o)) e).trans h
  refine (h'.trans ((congrFun hy _).trans (chunk_apply _ _ _ _ _ _))).trans ?_
  refine Eq.trans (α := EReal) ?_ (sum_runs fun a => rebuilt kscale kinv (named c fx n r) a * HMul.hMul (α := EReal) (β := EReal) (γ := EReal) (fw (ix2 a o)) (fs (ix2 (grp a) (blk o))))
  refine Finset.sum_congr (M := EReal) rfl fun k _ => Finset.sum_congr (M := EReal) rfl fun i _ => ?_
  have hi := i.isLt
  have hk := k.isLt
  have ei : i = ⟨128 * (i.1 / 128) + i.1 % 128, by omega⟩ := Fin.ext (by show i.1 = 128 * (i.1 / 128) + i.1 % 128; omega)
  have ej : (⟨o.1 % 512, by omega⟩ : Fin 512) = ⟨128 * (o.1 % 512 / 128) + o.1 % 128, by omega⟩ :=
    Fin.ext (by show o.1 % 512 = 128 * (o.1 % 512 / 128) + o.1 % 128; omega)
  have ec : (⟨256 * k.1 + i.1, by omega⟩ : Fin 2048) = ⟨256 * k.1 + 128 * (i.1 / 128) + i.1 % 128, by omega⟩ :=
    Fin.ext (by show 256 * k.1 + i.1 = 256 * k.1 + 128 * (i.1 / 128) + i.1 % 128; omega)
  have hx : xblk (selL c fi fx s0 s2 k) (ix2 r i) = rebuilt kscale kinv (named c fx n r) ⟨256 * k.1 + i.1, by omega⟩ := by
    refine (congrArg (fun i => xblk (selL c fi fx s0 s2 k) (ix2 r i)) ei).trans ?_
    refine (xblk_apply (selL c fi fx s0 s2 k) ⟨i.1 / 128, by omega⟩ r ⟨i.1 % 128, by omega⟩).trans ?_
    exact (rebuilt_at c fi fx s0 s2 n hn k ⟨i.1 / 128, by omega⟩ r ⟨i.1 % 128, by omega⟩).trans (congrArg (rebuilt kscale kinv (named c fx n r)) ec.symm)
  have ht : wtile (F := Ideal) (w k) (fun g m => scaleL c fs s1 ⟨2 * k.1 + g.1, by omega⟩ ⟨4 * (o.1 / 512) + m.1, by omega⟩) (ix2 i ⟨o.1 % 512, by omega⟩)
      = HMul.hMul (α := EReal) (β := EReal) (γ := EReal) (fw (ix2 ⟨256 * k.1 + i.1, by omega⟩ o)) (fs (ix2 (grp ⟨256 * k.1 + i.1, by omega⟩) (blk o))) := by
    refine (congrArg₂ (fun i j => wtile (F := Ideal) (w k) (fun g m => scaleL c fs s1 ⟨2 * k.1 + g.1, by omega⟩ ⟨4 * (o.1 / 512) + m.1, by omega⟩) (ix2 i j)) ei ej).trans ?_
    refine (wtile_apply (w k) (fun g m => scaleL c fs s1 ⟨2 * k.1 + g.1, by omega⟩ ⟨4 * (o.1 / 512) + m.1, by omega⟩)
      ⟨i.1 / 128, by omega⟩ ⟨o.1 % 512 / 128, by omega⟩ ⟨i.1 % 128, by omega⟩ ⟨o.1 % 128, by omega⟩).trans ?_
    refine congrArg₂ (· * ·) ((hw k _ _).trans ?_) ((scaleL_eq c fs s1 _ _).trans ?_)
    · refine congrArg₂ (fun a b => fw (ix2 a b)) (Fin.ext ?_) (Fin.ext ?_)
      · show 256 * k.1 + (128 * (i.1 / 128) + i.1 % 128) = 256 * k.1 + i.1
        omega
      · show 512 * (o.1 / 512) + (128 * (o.1 % 512 / 128) + o.1 % 128) = o.1
        omega
    · refine congrArg₂ (fun a b => fs (ix2 a b)) (Fin.ext ?_) (Fin.ext ?_)
      · show 2 * k.1 + i.1 / 128 = (256 * k.1 + i.1) / 128
        omega
      · show 4 * (o.1 / 512) + o.1 % 512 / 128 = o.1 / 128
        omega
  exact congrArg₂ (· * ·) hx ht

end Cert.KernelIdeal.Hand

end
-- ==== Proof.KernelRun.lean ====
/-
  A run of the whole kernel over the extended reals: if the body leaves the three results it is known to leave, the program ends with them and with its arguments as they were.
  And what the two host reshapes before the body hand to it.
-/
module

public import proofs.«01_k».proof.Proof.LaunchIdeal
public import proofs.«01_k».proof.Proof.Loads
public import Idealize.ShloMosaic.PureOps.Ideal.Laws
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The activations as the body reads them. -/
theorem rows_apply (c : Dev nD) (k : Fin 512) (j : Fin 2048) :
    V m c main_v0 (ix2 k j) = m ((c : Thread nD τ).loc main_arg0) (ix3 (0 : Fin 1) k j) := by
  have h : V m c main_v0 = shapeCast S512x2048 (m ((c : Thread nD τ).loc main_arg0)) shapeCasts_S1x512x2048_S512x2048 := by
    unfold V
    after_reads_simp
    rfl
  rw [h]
  exact shapeCast_1ab_ab_apply (m ((c : Thread nD τ).loc main_arg0)) shapeCasts_S1x512x2048_S512x2048 k j

/-- The indices as the body reads them. -/
theorem ids_apply (c : Dev nD) (r : Fin 192) : V m c main_v1 (ix2 (0 : Fin 1) r) = m ((c : Thread nD τ).loc main_arg1) (ix1 r) := by
  have h : V m c main_v1 = shapeCast S1x192 (m ((c : Thread nD τ).loc main_arg1)) shapeCasts_S192_S1x192 := by
    unfold V
    after_reads_simp
    rfl
  rw [h]
  refine shapeCast_apply _ _ _ (ix1 r) ?_
  rw [Shape.rowMajor_val_one, Shape.rowMajor_val_two]
  show r.1 = 0 * 192 + r.1
  omega

variable (g0 : (c : Dev nD) → Bf (F := Ideal) c main_v2_0) (g1 : (c : Dev nD) → Bf (F := Ideal) c main_v2_1) (g2 : (c : Dev nD) → Bf (F := Ideal) c main_v2_2)

/-- The contents of all buffers, the three results named. -/
def results (c : Dev nD) : (b : Ref sig .tc) → Buf (Elt Ideal) ((c : Thread nD τ).loc b) :=
  Function.update (Function.update (Function.update (V m c) main_v2_0 (g0 c)) main_v2_1 (g1 c)) main_v2_2 (g2 c)

theorem results_0 (c : Dev nD) : results m g0 g1 g2 c main_v2_0 = g0 c := by
  unfold results
  rw [Function.update_of_ne (by decide), Function.update_of_ne (by decide), Function.update_self]

theorem results_1 (c : Dev nD) : results m g0 g1 g2 c main_v2_1 = g1 c := by
  unfold results
  rw [Function.update_of_ne (by decide), Function.update_self]

theorem results_2 (c : Dev nD) : results m g0 g1 g2 c main_v2_2 = g2 c := by
  unfold results
  rw [Function.update_self]

/-- The run with its results named. -/
theorem run_named (h : ∀ c s0 s1 s2 s3 s4 s5 s6 s7 s8, left m c s0 s1 s2 s3 s4 s5 s6 s7 s8 = (g0 c, g1 c, g2 c)) :
    θ_run defs (onTc (τ := τ) (main (F := Ideal))) ⟨m, fun _ => 0, ρ⟩ fun r => ∀ c : Dev nD,
      r.2.mem ((c : Thread nD τ).loc main_v2_0) = g0 c
      ∧ r.2.mem ((c : Thread nD τ).loc main_v2_1) = g1 c
      ∧ r.2.mem ((c : Thread nD τ).loc main_v2_2) = g2 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r hr c => ?_) (run_main m ρ (results m g0 g1 g2) fun c s0 s1 s2 s3 s4 s5 s6 s7 s8 => ?_)
  · have hw := hr.1.2 c
    have ha := (hr.1.1 c).2
    exact ⟨(hw main_v2_0 (by decide)).trans (results_0 m g0 g1 g2 c), (hw main_v2_1 (by decide)).trans (results_1 m g0 g1 g2 c),
      (hw main_v2_2 (by decide)).trans (results_2 m g0 g1 g2 c),
      (ha main_arg0 (rest_of _ (by decide) (by decide))).trans (V_main_arg0 m c),
      (ha main_arg1 (rest_of _ (by decide) (by decide))).trans (V_main_arg1 m c),
      (ha main_arg2 (rest_of _ (by decide) (by decide))).trans (V_main_arg2 m c),
      (ha main_arg3 (rest_of _ (by decide) (by decide))).trans (V_main_arg3 m c)⟩
  · rw [results_0, results_1, results_2]
    exact h c s0 s1 s2 s3 s4 s5 s6 s7 s8

end Cert.KernelIdeal.Hand

end
-- ==== Proof.RefPoint.lean ====
/-
  What the reference computes, entry by entry.
-/
module

public import proofs.«01_k».proof.Proof.Spec
public import proofs.«01_k».proof.Proof.Gen.ReferenceIdeal.Skeleton
public import Idealize.ShloMosaic.PureOps.Ideal.Laws
public import Idealize.ShloMosaic.Lib.MatmulPlain
public import Idealize.ShloMosaic.Lib.ValueLayout
public import Idealize.ShloMosaic.Lib.Pipeline.Value

@[expose] public section

set_option maxRecDepth 16384

noncomputable section

namespace Cert.ReferenceIdeal.Hand

open Cert.ReferenceIdeal Cert.ReferenceIdeal.Gen Cert.Quant
open Idealize.ShloMosaic Idealize.ShloMosaic.ValueIdx

/-! ## Entries of pointwise operations -/

theorem lit_at (s : Shape) (b : BitVec 32) (i : s.Idx) : broadcast s (Scalar.ofBits (F := Ideal) .f32 b) i = lit b := rfl
theorem min_at {s : Shape} {φ : FTy} (a b : FVec Ideal s φ) (i : s.Idx) : minimumf a b i = min (a i) (b i) := rfl
theorem max_at {s : Shape} {φ : FTy} (a b : FVec Ideal s φ) (i : s.Idx) : maximumf a b i = max (a i) (b i) := rfl
theorem mul_at {s : Shape} {φ : FTy} (a b : FVec Ideal s φ) (i : s.Idx) : mulf a b i = a i * b i := rfl
theorem narrow_at {s : Shape} {φ : FTy} (ψ : FTy) (a : FVec Ideal s φ) (h : ψ.bits < φ.bits) (i : s.Idx) : (truncf ψ a h : FVec Ideal s ψ) i = a i := rfl
theorem widen_at {s : Shape} {φ : FTy} (ψ : FTy) (a : FVec Ideal s φ) (h : φ.bits < ψ.bits) (i : s.Idx) : (extf ψ a h : FVec Ideal s ψ) i = a i := rfl

/-! ## Reshapes -/

/-- A row cut into groups. -/
theorem cut_apply {α : Type} (v : S192x2048.Idx → α) (h : S192x2048.ShapeCasts S192x16x128) (r : Fin 192) (b : Fin 16) (j : Fin 128) :
    shapeCast S192x16x128 v h (ix3 r b j) = v (ix2 r ⟨128 * b.1 + j.1, by omega⟩) := by
  refine shapeCast_apply v _ _ _ ?_
  rw [Shape.rowMajor_val_two, Shape.rowMajor_val_three]
  show r.val * 2048 + (128 * b.1 + j.1) = (r.val * 16 + b.val) * 128 + j.val
  omega

/-- Groups joined into a row. -/
theorem join_apply {α : Type} (v : S192x16x128.Idx → α) (h : S192x16x128.ShapeCasts S192x2048) (r : Fin 192) (c : Fin 2048) :
    shapeCast S192x2048 v h (ix2 r c) = v (ix3 r (grp c) ⟨c.1 % 128, by omega⟩) := by
  refine shapeCast_apply v _ _ _ ?_
  rw [Shape.rowMajor_val_two, Shape.rowMajor_val_three]
  show (r.val * 16 + c.1 / 128) * 128 + c.1 % 128 = r.val * 2048 + c.val
  omega

/-- The weights cut into blocks. -/
theorem cutw_apply {α : Type} (v : S2048x8192.Idx → α) (h : S2048x8192.ShapeCasts S16x128x64x128) (c : Fin 2048) (o : Fin 8192) :
    shapeCast S16x128x64x128 v h (ix4 (grp c) (⟨c.1 % 128, by omega⟩ : Fin 128) (blk o) (⟨o.1 % 128, by omega⟩ : Fin 128)) = v (ix2 c o) := by
  refine shapeCast_apply v _ _ _ ?_
  rw [Shape.rowMajor_val_two, Shape.rowMajor_val_four]
  show c.val * 8192 + o.val = ((c.1 / 128 * 128 + c.1 % 128) * 64 + o.1 / 128) * 128 + o.1 % 128
  omega

/-- The blocks of the weights joined. -/
theorem joinw_apply {α : Type} (v : S16x128x64x128.Idx → α) (h : S16x128x64x128.ShapeCasts S2048x8192) (c : Fin 2048) (o : Fin 8192) :
    shapeCast S2048x8192 v h (ix2 c o) = v (ix4 (grp c) (⟨c.1 % 128, by omega⟩ : Fin 128) (blk o) (⟨o.1 % 128, by omega⟩ : Fin 128)) := by
  refine shapeCast_apply v _ _ _ ?_
  rw [Shape.rowMajor_val_two, Shape.rowMajor_val_four]
  show ((c.1 / 128 * 128 + c.1 % 128) * 64 + o.1 / 128) * 128 + o.1 % 128 = c.val * 8192 + o.val
  omega

/-- A number for each group set against all of the group's entries. -/
theorem spread_apply {α : Type} (v : S192x16.Idx → α) (h : S192x16.ShapeCasts S192x16x1) (h' : S192x16x1.Broadcasts S192x16x128)
    (r : Fin 192) (b : Fin 16) (j : Fin 128) : broadcastTo S192x16x128 (shapeCast S192x16x1 v h) h' (ix3 r b j) = v (ix2 r b) := by
  refine (broadcastTo_apply _ h' (ix3 r b j) (ix3 r b (0 : Fin 1)) fun a => ?_).trans ?_
  · match a with
    | ⟨0, _⟩ => rfl
    | ⟨1, _⟩ => rfl
    | ⟨2, _⟩ => rfl
  · refine shapeCast_apply v _ _ _ ?_
    rw [Shape.rowMajor_val_two, Shape.rowMajor_val_three]
    show r.val * 16 + b.val = (r.val * 16 + b.val) * 1 + 0
    omega

/-- A number for each block of weights set against all of the block's entries. -/
theorem spreadw_apply {α : Type} (v : S16x64.Idx → α) (h : S16x64.ShapeCasts S16x1x64x1) (h' : S16x1x64x1.Broadcasts S16x128x64x128)
    (b : Fin 16) (i : Fin 128) (n : Fin 64) (j : Fin 128) :
    broadcastTo S16x128x64x128 (shapeCast S16x1x64x1 v h) h' (ix4 b i n j) = v (ix2 b n) := by
  refine (broadcastTo_apply _ h' (ix4 b i n j) (ix4 b (0 : Fin 1) n (0 : Fin 1)) fun a => ?_).trans ?_
  · match a with
    | ⟨0, _⟩ => rfl
    | ⟨1, _⟩ => rfl
    | ⟨2, _⟩ => rfl
    | ⟨3, _⟩ => rfl
  · refine shapeCast_apply v _ _ _ ?_
    rw [Shape.rowMajor_val_two, Shape.rowMajor_val_four]
    show b.val * 64 + n.val = ((b.val * 1 + 0) * 64 + n.val) * 1 + 0
    omega

/-! ## The quantiser -/

/-- Row `r` of the activations. -/
abbrev rowOf (v : Vec Ideal S192x2048 .bf16) (r : Fin 192) : Fin 2048 → EReal := fun c => v (ix2 r c)

theorem in_apply (v : Vec Ideal S192x2048 .bf16) (r : Fin 192) (b : Fin 16) (j : Fin 128) :
    k0_pay3 (F := Ideal) v (ix3 r b j) = Quant.part (rowOf v r) b j := by
  unfold k0_pay3
  refine (cut_apply _ _ r b j).trans ?_
  rw [widen_at, shapeCast_self]
  rfl

/-- The greatest magnitude of each group. -/
def amax (v : Vec Ideal S192x2048 .bf16) : FVec Ideal S192x16 .f32 :=
  multiReduction .maximumf [2] S192x16 (absf (k0_pay3 (F := Ideal) v)) 0xFF800000#32 reduces_S192x16x128_S192x16 (.inl rfl) rfl

theorem amax_apply (v : Vec Ideal S192x2048 .bf16) (r : Fin 192) (b : Fin 16) : amax v (ix2 r b) = gmax (Quant.part (rowOf v r) b) := by
  unfold amax
  refine (Ideal.multiReduction_maximumf_single (absf (k0_pay3 (F := Ideal) v)) _ reduces_S192x16x128_S192x16 (.inl rfl) rfl (ix2 r b)).trans ?_
  unfold gmax
  refine Finset.fold_congr fun k _ => ?_
  have h : reduces_S192x16x128_S192x16.lift (ix2 r b) k = ix3 r b k := by
    funext a
    match a with
    | ⟨0, _⟩ => rfl
    | ⟨1, _⟩ => rfl
    | ⟨2, _⟩ => rfl
  exact congrArg (fun z : EReal => max z (-z)) ((congrArg (k0_pay3 (F := Ideal) v) h).trans (in_apply v r b k))

/-- The scale's exponent, from the greatest magnitude. -/
def exponent (a : FVec Ideal S192x16 .f32) : FVec Ideal S192x16 .f32 :=
  have z : FVec Ideal S192x16 .f32 := broadcast S192x16 (Scalar.ofBits .f32 0x00000000#32)
  have t : FVec Ideal S192x16 .f32 := mulf a (broadcast S192x16 (Scalar.ofBits .f32 0x3B124925#32))
  have u : FVec Ideal S192x16 .f32 := select (cmpf .olt t (broadcast S192x16 (Scalar.ofBits .f32 0x00800000#32))) z t
  select (cmpf .oeq u z) z (addf (floor (divf (log u) (log (broadcast S192x16 (Scalar.ofBits .f32 0x40000000#32)))))
    (broadcast S192x16 (Scalar.ofBits .f32 0x3F800000#32)))

theorem exponent_eq (v : Vec Ideal S192x2048 .bf16) : k0_pay4 (F := Ideal) v = exponent (amax v) := Eq.refl _

theorem select_at {s : Shape} (c : IVec s 1) (a b : FVec Ideal s .f32) (i : s.Idx) : select c a b i = Scalar.select (c i) (a i) (b i) := rfl
theorem cmp_at {s : Shape} (p : CmpFPredicate) (a b : FVec Ideal s .f32) (i : s.Idx) : cmpf p a b i = Ideal.cmp p (a i) (b i) := rfl
theorem add_at {s : Shape} (a b : FVec Ideal s .f32) (i : s.Idx) : addf a b i = a i + b i := rfl
theorem sub_at {s : Shape} (a b : FVec Ideal s .f32) (i : s.Idx) : subf a b i = a i - b i := rfl
theorem div_at {s : Shape} (a b : FVec Ideal s .f32) (i : s.Idx) : divf a b i = Ideal.div (a i) (b i) := rfl
theorem log_at {s : Shape} (a : FVec Ideal s .f32) (i : s.Idx) : log a i = Ideal.log (a i) := rfl
theorem exp2_at {s : Shape} (a : FVec Ideal s .f32) (i : s.Idx) : exp2 a i = Ideal.exp2 (a i) := rfl
theorem floor_at {s : Shape} (a : FVec Ideal s .f32) (i : s.Idx) : floor a i = Ideal.liftRound Int.floor (a i) := rfl

theorem exponent_apply (a : FVec Ideal S192x16 .f32) (i : S192x16.Idx) : exponent a i = rexp (a i) := by
  unfold exponent rexp flushed Quant.top
  rw [select_at, cmp_at, select_at, cmp_at, add_at, floor_at, div_at, log_at, log_at, select_at, cmp_at, mul_at, lit_at, lit_at, lit_at, lit_at, lit_at]

theorem exp_apply (v : Vec Ideal S192x2048 .bf16) (r : Fin 192) (b : Fin 16) : k0_pay4 (F := Ideal) v (ix2 r b) = rexp (gmax (Quant.part (rowOf v r) b)) := by
  rw [← amax_apply, exponent_eq, exponent_apply]

theorem scale_apply (v : Vec Ideal S192x2048 .bf16) (r : Fin 192) (b : Fin 16) : k0_pay5 (F := Ideal) v (ix2 r b) = rscale (gmax (Quant.part (rowOf v r) b)) := by
  unfold rscale k0_pay5
  rw [exp2_at, exp_apply]

/-- The inverse scale of each group. -/
def inverse (v : Vec Ideal S192x2048 .bf16) : FVec Ideal S192x16 .f32 :=
  exp2 (subf (broadcast S192x16 (Scalar.ofBits .f32 0x00000000#32)) (k0_pay4 (F := Ideal) v))

theorem inverse_apply (v : Vec Ideal S192x2048 .bf16) (r : Fin 192) (b : Fin 16) : inverse v (ix2 r b) = rinv (gmax (Quant.part (rowOf v r) b)) := by
  unfold rinv inverse
  rw [exp2_at, sub_at, exp_apply, lit_at]

theorem codes_apply (v : Vec Ideal S192x2048 .bf16) (r : Fin 192) (c : Fin 2048) :
    k0_pay6 (F := Ideal) v (ix3 r (grp c) (⟨c.1 % 128, by omega⟩ : Fin 128)) = code rinv (rowOf v r) c := by
  have hc : Quant.part (rowOf v r) (grp c) ⟨c.1 % 128, by omega⟩ = rowOf v r c :=
    congrArg (rowOf v r) (Fin.ext (show 128 * (c.1 / 128) + c.1 % 128 = c.1 by omega))
  unfold code
  rw [← inverse_apply, ← hc, ← in_apply,
    ← spread_apply (inverse v) shapeCasts_S192x16_S192x16x1 broadcasts_S192x16x1_S192x16x128 r (grp c) ⟨c.1 % 128, by omega⟩]
  unfold k0_pay6
  refine (narrow_at .fp8e4m3 _ bitsLt_fp8e4m3_f32 _).trans ((min_at _ _ _).trans ?_)
  rw [max_at, mul_at]
  rw [lit_at S192x16x128 0x43E00000#32, lit_at S192x16x128 0xC3E00000#32]
  exact Eq.refl _

theorem rebuilt_apply (v : Vec Ideal S192x2048 .bf16) (r : Fin 192) (c : Fin 2048) :
    k0_pay7 (F := Ideal) v (ix3 r (grp c) (⟨c.1 % 128, by omega⟩ : Fin 128)) = rebuilt rscale rinv (rowOf v r) c := by
  unfold rebuilt k0_pay7
  rw [mul_at, widen_at, spread_apply, narrow_at, codes_apply, scale_apply]

/-! ## The product -/

theorem codes_out (v : Vec Ideal S192x2048 .bf16) (r : Fin 192) (c : Fin 2048) :
    k0_pay2 (F := Ideal) (k0_pay6 (F := Ideal) v) (ix2 r c) = code rinv (rowOf v r) c :=
  (join_apply _ shapeCasts_S192x16x128_S192x2048 r c).trans (codes_apply v r c)

theorem prod_out (v : Vec Ideal S192x2048 .bf16) (w : Vec Ideal S2048x8192 .fp8e4m3) (s : Vec Ideal S16x64 .f32) (r : Fin 192) (o : Fin 8192) :
    k0_pay1 (F := Ideal) (k0_pay7 (F := Ideal) v) (k0_pay8 (F := Ideal) w) s (ix2 r o)
      = prod rscale rinv (rowOf v r) (fun c o => w (ix2 c o)) (fun b n => s (ix2 b n)) o := by
  unfold k0_pay1
  refine (narrow_at .bf16 _ bitsLt_bf16_f32 _).trans ((Ideal.matmul_plain_apply (M := 192) (K := 2048) (N := 8192) none _ _ _ r o).trans ?_)
  have h0 : (constant (F := Ideal) S192x8192 .f32 0x00000000#32 : FVec Ideal S192x8192 .f32) (ix2 r o) = 0 := lit_zero
  rw [h0, zero_add]
  unfold prod
  refine Finset.sum_congr rfl fun c _ => ?_
  rw [join_apply, rebuilt_apply, joinw_apply, mul_at, spreadw_apply, narrow_at]
  unfold k0_pay8
  rw [cutw_apply, widen_at]

end Cert.ReferenceIdeal.Hand

end
-- ==== Proof.Decode.lean ====
/-
  What the precondition says: every activation's magnitude is at most bf16's greatest number, and every row index is one of the 512 rows.
-/
module

public import proofs.«01_k».proof.Pre_pre
public import proofs.«01_k».proof.Proof.Quant
public import Idealize.ShloMosaic.PureOps.Ideal.Laws
public import Idealize.ShloMosaic.PureOps.Reduce
public import Idealize.ShloMosaic.Lib.WordCmp
public import Idealize.ShloMosaic.Lib.ValueLayout

@[expose] public section

noncomputable section

namespace Cert.Decode

open Idealize.ShloMosaic Idealize.ShloMosaic.ValueIdx Cert.Quant

theorem and_eq_one (a b : BitVec 1) : IntOp.andi a b = 1#1 ↔ a = 1#1 ∧ b = 1#1 := by revert a b; decide

theorem foldl_and {α : Type} (f : α → BitVec 1) (l : List α) (a : BitVec 1) :
    l.foldl (fun r i => IntOp.andi r (f i)) a = 1#1 ↔ a = 1#1 ∧ ∀ i ∈ l, f i = 1#1 := by
  induction l generalizing a with
  | nil => simp
  | cons b l ih =>
    rw [List.foldl_cons, ih, and_eq_one]
    simp only [List.mem_cons, forall_eq_or_imp, and_assoc]

/-- A conjunction over axes is true at `j` exactly where all its entries over `j` and the initial value are. -/
theorem all_iff {s t u : Shape} {axes : List (Fin s.rank)} (x : IVec s 1) (v : IVec u 1) (h : s.ReducesTo axes t) (hu : 0 < u.numel) (j : t.Idx) :
    Host.reduce IntOp.andi x v h hu j = 1#1 ↔ v (Shape.Idx.first hu) = 1#1 ∧ ∀ i, h.drop i = j → x i = 1#1 := by
  rw [Host.reduce_eq_foldl, foldl_and]
  refine and_congr_right fun _ => forall_congr' fun i => ?_
  rw [List.mem_filter]
  refine ⟨fun g hi => g ⟨List.mem_map.mpr ⟨s.rowMajor i, List.mem_finRange _, s.rowMajor.symm_apply_apply i⟩, decide_eq_true hi⟩,
    fun g hi => g (of_decide_eq_true hi.2)⟩

variable [Pre_pre.Facts]

/-- The two facts. -/
structure Good (x : FVec Ideal Pre_pre.S1x512x2048 .bf16) (ids : IVec Pre_pre.S192 32) : Prop where
  small : ∀ i, max (x i) (-(x i)) ≤ Ideal.ofBits .bf16 0x7F7F#16
  row : ∀ r : Fin 192, (ids (ix1 r)).toNat < 512

theorem le_of_cmp {a b : EReal} (h : Ideal.cmp .ole a b = 1#1) : a ≤ b := by
  by_contra hc
  have : Ideal.cmp .ole a b = 0#1 := by simp [Ideal.cmp, hc]
  rw [this] at h
  exact absurd h (by decide)

theorem good (x : FVec Ideal Pre_pre.S1x512x2048 .bf16) (ids : IVec Pre_pre.S192 32) (w : FVec Ideal Pre_pre.S2048x8192 .fp8e4m3)
    (s : FVec Ideal Pre_pre.S16x64 .f32) (h : Pre_pre.fn (F := Ideal) x ids w s = fun _ => 1#1) : Good x ids := by
  have h0 := congrFun h (fun a => a.elim0)
  unfold Pre_pre.fn at h0
  obtain ⟨h1, h2⟩ := (and_eq_one _ _).mp h0
  have h1 := ((all_iff _ _ _ _ _).mp h1).2
  have h2 := ((all_iff _ _ _ _ _).mp h2).2
  refine ⟨fun i => le_of_cmp (h1 i (funext fun a => a.elim0)), fun r => ?_⟩
  have h3 : IntOp.andi (IntOp.cmpi .sge (ids (ix1 r)) 0#32) (IntOp.cmpi .slt (ids (ix1 r)) (BitVec.ofNat 32 512)) = 1#1 :=
    h2 (ix1 r) (funext fun a => a.elim0)
  rw [WordCmp.andi_sge_zero_slt_ofNat (by decide)] at h3
  by_contra hc
  rw [decide_eq_false hc] at h3
  exact absurd h3 (by decide)

end Cert.Decode

end
-- ==== Proof.RefHost.lean ====
/-
  What the reference's host lines hand to its computation: the rows that the indices name.
-/
module

public import proofs.«01_k».proof.Proof.Decode
public import proofs.«01_k».proof.Proof.Gen.ReferenceIdeal.Frame
public import Idealize.ShloMosaic.Lib.Routing.Ops
public import Idealize.ShloMosaic.Lib.StableHlo.RunRead

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.ValueIdx

/-- The row numbers as the gather takes them. -/
def starts (ids : IVec S192 32) : IVec S192x1 32 :=
  broadcastInDim S192x1 ![0] bcast_S192_S192x1_0 (select (cmpi .slt ids (broadcastInDim S192 ![] bcast_S_S192 (constantI S_ 32 0#32)))
    (addi ids (broadcastInDim S192 ![] bcast_S_S192 (constantI S_ 32 512#32))) ids)

/-- Whether each row number is a row. -/
def inside (p : IVec S192x1 32) : IVec S192 1 :=
  Host.reduce IntOp.andi (andi (cmpi .sge p (broadcastInDim S192x1 ![] bcast_S_S192x1 (constantI S_ 32 0#32)))
    (cmpi .sle p (broadcastInDim S192x1 ![0, 1] bcast_S1x1_S192x1_0_1 (broadcastInDim S1x1 ![1] bcast_S1_S1x1_1 (constantI S1 32 511#32)))))
    (constantI S_ 1 1#1) reducesTo_S192x1_S192_d1 h_S_

/-- The rows taken. -/
def taken (x : FVec Ideal S512x2048 .bf16) (ids : IVec S192 32) : FVec Ideal S192x2048 .bf16 :=
  select (broadcastInDim S192x2048 ![0] bcast_S192_S192x2048_0 (inside (starts ids)))
    (Host.gather gather_S512x2048_S192x1_S192x2048_1_0_n_n_0_1_12048 x (starts ids))
    (broadcastInDim S192x2048 ![] bcast_S_S192x2048 (constant (F := Ideal) S_ .bf16 0x7FC0#16))

theorem starts_apply (ids : IVec S192 32) (r : Fin 192) (h : (ids (ix1 r)).toNat < 512) : starts ids (ix2 r (0 : Fin 1)) = ids (ix1 r) := by
  have h1 : starts ids (ix2 r (0 : Fin 1)) = Scalar.select (IntOp.cmpi .slt (ids (ix1 r)) 0#32) (ids (ix1 r) + 512#32) (ids (ix1 r)) := by
    have e : (fun a : Fin 1 => if h1 : S192.size a = 1 then (⟨0, by omega⟩ : Fin (S192.size a)) else ⟨((ix2 r (0 : Fin 1)) ((![0] : Fin 1 → Fin 2) a)).val, by
        match a with | ⟨0, _⟩ => exact r.isLt⟩) = ix1 r := by
      funext a
      match a with
      | ⟨0, _⟩ => rfl
    exact congrArg (fun i => Scalar.select (IntOp.cmpi .slt (ids i) 0#32) (ids i + 512#32) (ids i)) e
  rw [h1, WordCmp.cmpi_slt_zero, decide_eq_false (by omega)]
  rfl

theorem inside_apply (p : IVec S192x1 32) (r : Fin 192) (h : (p (ix2 r (0 : Fin 1))).toNat < 512) : inside p (ix1 r) = 1#1 := by
  refine (Decode.all_iff _ _ reducesTo_S192x1_S192_d1 h_S_ (ix1 r)).mpr ⟨rfl, fun i hi => ?_⟩
  have e : i = ix2 r (0 : Fin 1) := by
    funext a
    match a with
    | ⟨0, _⟩ => exact congrFun hi 0
    | ⟨1, _⟩ => exact Subsingleton.elim (α := Fin 1) _ _
  subst e
  refine (Decode.and_eq_one _ _).mpr ⟨?_, ?_⟩
  · exact (StableHlo.Predicate.sge_iff_toNat (a := p (ix2 r (0 : Fin 1))) (b := 0#32) (by omega) (by decide)).mpr (Nat.zero_le _)
  · exact (StableHlo.Predicate.sle_iff_toNat (a := p (ix2 r (0 : Fin 1))) (b := 511#32) (by omega) (by decide)).mpr
      (by show _ ≤ 511; omega)

theorem taken_apply (x : FVec Ideal S512x2048 .bf16) (ids : IVec S192 32) (r : Fin 192) (j : Fin 2048) (k : Fin 512)
    (hk : ids (ix1 r) = BitVec.ofNat 32 k.val) : taken x ids (ix2 r j) = x (ix2 k j) := by
  have hn : (ids (ix1 r)).toNat < 512 := by
    rw [hk, BitVec.toNat_ofNat]
    have := k.isLt
    omega
  have hs := starts_apply ids r hn
  have h1 : broadcastInDim S192x2048 ![0] bcast_S192_S192x2048_0 (inside (starts ids)) (ix2 r j) = 1#1 := by
    refine Eq.trans ?_ (inside_apply (starts ids) r (by rw [hs]; exact hn))
    refine congrArg (inside (starts ids)) ?_
    funext a
    match a with
    | ⟨0, _⟩ => rfl
  unfold taken
  show Scalar.select _ _ _ = _
  rw [h1]
  exact Routing.gather_row gather_S512x2048_S192x1_S192x2048_1_0_n_n_0_1_12048 rfl rfl rfl rfl rfl x (starts ids) r j k (hs.trans hk) (by decide)

variable (m : (ℓ : Loc nD τ sig) → Buf (Elt Ideal) ℓ)

/-- The reshape before the rows are taken. -/
theorem flat_apply (x : FVec Ideal S1x512x2048 .bf16) (k : Fin 512) (j : Fin 2048) :
    shapeCast S512x2048 x shapeCasts_S1x512x2048_S512x2048 (ix2 k j) = x (ix3 (0 : Fin 1) k j) :=
  shapeCast_1ab_ab_apply x shapeCasts_S1x512x2048_S512x2048 k j

theorem rows_eq (c : Dev nD) : V m c main_v1
    = taken (shapeCast S512x2048 (m ((c : Thread nD τ).loc main_arg0)) shapeCasts_S1x512x2048_S512x2048) (m ((c : Thread nD τ).loc main_arg1)) := by
  unfold V
  after_reads_simp
  rfl

end Cert.ReferenceIdeal.Hand

end
-- ==== Proof.RefValue.lean ====
/-
  What the reference leaves in its three results.
-/
module

public import proofs.«01_k».proof.Proof.RefPoint
public import proofs.«01_k».proof.Proof.RefHost

@[expose] public section

set_option maxRecDepth 16384

noncomputable section

namespace Cert.ReferenceIdeal.Hand

open Cert.ReferenceIdeal Cert.ReferenceIdeal.Gen Cert.Quant
open Idealize.ShloMosaic Idealize.ShloMosaic.TcCoe Idealize.SL.Sem Idealize.ShloMosaic.ValueIdx

variable (m : (ℓ : Loc nD τ sig) → Buf (Elt Ideal) ℓ) (c : Dev nD)

/-! ## Each window is its whole array -/

/-- The one grid point. -/
abbrev pt0 : Fin cfg0.N := ⟨0, by decide⟩

theorem in0 : iblk m c 0 pt0 = V m c main_v1 := by
  funext y
  refine congrArg (V m c main_v1) ?_
  funext a
  exact Fin.ext (Pipeline.Window.rect_emb_val_of_index_zero win0_0 pt0 a rfl y)

theorem in1 : iblk m c 1 pt0 = V m c main_arg2 := by
  funext y
  refine congrArg (V m c main_arg2) ?_
  funext a
  exact Fin.ext (Pipeline.Window.rect_emb_val_of_index_zero win0_1 pt0 a rfl y)

theorem in2 : iblk m c 2 pt0 = V m c main_arg3 := by
  funext y
  refine congrArg (V m c main_arg3) ?_
  funext a
  exact Fin.ext (Pipeline.Window.rect_emb_val_of_index_zero win0_2 pt0 a rfl y)

theorem one_point (t t' : Fin cfg0.N) (h : t ≠ t') : False := h (Fin.ext (by
  have h1 : t.val < 1 := t.isLt
  have h2 : t'.val < 1 := t'.isLt
  omega))

theorem out3 : (dats m 0 c).arrAt 3 cfg0.N = out0_3 (V m c main_v1) (V m c main_arg2) (V m c main_arg3) := by
  have h : ((cfg0.win 3).blk pt0).view.read (Elt Ideal) ((dats m 0 c).arrAt 3 cfg0.N) = (dats m 0 c).flushed 3 pt0 :=
    (dats m 0 c).read_blk_arrAt_eq_flushed 3 (fun t t' _ _ hne => (one_point t t' hne).elim) cfg0.N pt0 pt0.isLt rfl
  rw [show (dats m 0 c).flushed 3 pt0 = (cfg0.win 3).cut (grid0.coords pt0) (out0_3 (iblk m c 0 pt0) (iblk m c 1 pt0) (iblk m c 2 pt0)) by
    show (cfg0.win 3).cut (grid0.coords pt0) ((dats m 0 c).after 3 pt0) = _
    rw [after0_3], in0, in1, in2] at h
  funext y
  refine Eq.trans (congrArg ((dats m 0 c).arrAt 3 cfg0.N) ?_) (congrFun h y)
  funext a
  exact Fin.ext (Pipeline.Window.rect_emb_val_of_index_zero win0_3 pt0 a rfl y).symm

theorem out4 : (dats m 0 c).arrAt 4 cfg0.N = out0_4 (V m c main_v1) (V m c main_arg2) (V m c main_arg3) := by
  have h : ((cfg0.win 4).blk pt0).view.read (Elt Ideal) ((dats m 0 c).arrAt 4 cfg0.N) = (dats m 0 c).flushed 4 pt0 :=
    (dats m 0 c).read_blk_arrAt_eq_flushed 4 (fun t t' _ _ hne => (one_point t t' hne).elim) cfg0.N pt0 pt0.isLt rfl
  rw [show (dats m 0 c).flushed 4 pt0 = (cfg0.win 4).cut (grid0.coords pt0) (out0_4 (iblk m c 0 pt0) (iblk m c 1 pt0) (iblk m c 2 pt0)) by
    show (cfg0.win 4).cut (grid0.coords pt0) ((dats m 0 c).after 4 pt0) = _
    rw [after0_4], in0, in1, in2] at h
  funext y
  refine Eq.trans (congrArg ((dats m 0 c).arrAt 4 cfg0.N) ?_) (congrFun h y)
  funext a
  exact Fin.ext (Pipeline.Window.rect_emb_val_of_index_zero win0_4 pt0 a rfl y).symm

theorem out5 : (dats m 0 c).arrAt 5 cfg0.N = out0_5 (V m c main_v1) (V m c main_arg2) (V m c main_arg3) := by
  have h : ((cfg0.win 5).blk pt0).view.read (Elt Ideal) ((dats m 0 c).arrAt 5 cfg0.N) = (dats m 0 c).flushed 5 pt0 :=
    (dats m 0 c).read_blk_arrAt_eq_flushed 5 (fun t t' _ _ hne => (one_point t t' hne).elim) cfg0.N pt0 pt0.isLt rfl
  rw [show (dats m 0 c).flushed 5 pt0 = (cfg0.win 5).cut (grid0.coords pt0) (out0_5 (iblk m c 0 pt0) (iblk m c 1 pt0) (iblk m c 2 pt0)) by
    show (cfg0.win 5).cut (grid0.coords pt0) ((dats m 0 c).after 5 pt0) = _
    rw [after0_5], in0, in1, in2] at h
  funext y
  refine Eq.trans (congrArg ((dats m 0 c).arrAt 5 cfg0.N) ?_) (congrFun h y)
  funext a
  exact Fin.ext (Pipeline.Window.rect_emb_val_of_index_zero win0_5 pt0 a rfl y).symm

/-! ## The results, entry by entry -/

theorem zero2 : (![0, 0] : Fin 2 → ℕ) = fun _ => 0 := by
  funext a
  match a with
  | ⟨0, _⟩ => rfl
  | ⟨1, _⟩ => rfl

theorem out3_apply (x : Vec Ideal S192x2048 .bf16) (w : Vec Ideal S2048x8192 .fp8e4m3) (s : Vec Ideal S16x64 .f32) (r : Fin 192) (o : Fin 8192) :
    out0_3 x w s (ix2 r o) = prod rscale rinv (rowOf x r) (fun c o => w (ix2 c o)) (fun b n => s (ix2 b n)) o := by
  unfold out0_3
  rw [View.canon_unit_zero zero2, View.ld_unit_zero zero2, View.ld_unit_zero zero2, View.ld_unit_zero zero2]
  exact prod_out x w s r o

theorem out4_apply (x : Vec Ideal S192x2048 .bf16) (w : Vec Ideal S2048x8192 .fp8e4m3) (s : Vec Ideal S16x64 .f32) (r : Fin 192) (k : Fin 2048) :
    out0_4 x w s (ix2 r k) = code rinv (rowOf x r) k := by
  unfold out0_4
  rw [View.canon_unit_zero zero2, View.ld_unit_zero zero2]
  exact codes_out x r k

theorem out5_apply (x : Vec Ideal S192x2048 .bf16) (w : Vec Ideal S2048x8192 .fp8e4m3) (s : Vec Ideal S16x64 .f32) (r : Fin 192) (b : Fin 16) :
    out0_5 x w s (ix2 r b) = rscale (gmax (Quant.part (rowOf x r) b)) := by
  unfold out0_5
  rw [View.canon_unit_zero zero2, View.ld_unit_zero zero2]
  exact scale_apply x r b

variable (ρ : Dev nD → PrngReg)

/-- The run, with what it leaves. -/
theorem run_outs : θ_run defs (onTc (τ := τ) (main (F := Ideal))) ⟨m, fun _ => 0, ρ⟩ fun r => ∀ c : Dev nD,
      r.2.mem ((c : Thread nD τ).loc main_v2_0) = out0_3 (V m c main_v1) (m ((c : Thread nD τ).loc main_arg2)) (m ((c : Thread nD τ).loc main_arg3))
      ∧ r.2.mem ((c : Thread nD τ).loc main_v2_1) = out0_4 (V m c main_v1) (m ((c : Thread nD τ).loc main_arg2)) (m ((c : Thread nD τ).loc main_arg3))
      ∧ r.2.mem ((c : Thread nD τ).loc main_v2_2) = out0_5 (V m c main_v1) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_main m ρ)
  have e2 := V_main_arg2 m c
  have e3 := V_main_arg3 m c
  refine ⟨?_, ?_, ?_, ?_, ?_, ?_, ?_⟩
  · refine ((h c).1 3).trans ((out3 m c).trans ?_)
    rw [e2, e3]
  · refine ((h c).1 4).trans ((out4 m c).trans ?_)
    rw [e2, e3]
  · refine ((h c).1 5).trans ((out5 m c).trans ?_)
    rw [e2, e3]
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 1).trans (((dats m 0 c).arrAt_in 1 rfl _).trans ((A_eq m c 1).trans e2))
  · exact ((h c).1 2).trans (((dats m 0 c).arrAt_in 2 rfl _).trans ((A_eq m c 2).trans e3))

end Cert.ReferenceIdeal.Hand

end
-- ==== Proof.Equation.lean ====
/-
  The equation: where every index names a row and no activation is larger than the largest finite bf16, what the kernel leaves in its three results
  is what the reference leaves in its own.
-/
module

public import proofs.«01_k».proof.Proof.KernelValue
public import proofs.«01_k».proof.Proof.KernelRun
public import proofs.«01_k».proof.Proof.RefValue
public import proofs.«01_k».proof.Proof.RefHost
public import proofs.«01_k».proof.Proof.Decode

@[expose] public section

set_option maxRecDepth 16384

noncomputable section

namespace Cert.Equation

open Idealize.ShloMosaic Idealize.ShloMosaic.TcCoe Idealize.SL.Sem Idealize.ShloMosaic.ValueIdx Cert.Quant

/-- Two arrays of rank two agree if their entries do. -/
theorem ext2 {a b : ℕ} {α : Type} (f g : (⟨2, ![a, b]⟩ : Shape).Idx → α) (h : ∀ (r : Fin a) (o : Fin b), f (ix2 r o) = g (ix2 r o)) : f = g := by
  funext i
  rw [eq_ix2 i]
  exact h _ _

theorem triple {α β γ : Type} (p : α × β × γ) {x : α} {y : β} {z : γ} (h0 : p.1 = x) (h1 : p.2.1 = y) (h2 : p.2.2 = z) : p = (x, y, z) := by
  subst h0 h1 h2
  rfl

section

variable [Pre_pre.Facts] (x : FVec Ideal Pre_pre.S1x512x2048 .bf16) (ids : IVec Pre_pre.S192 32) (h : Decode.Good x ids)

/-- The row that index `r` names. -/
def rowNo (r : Fin 192) : Fin 512 := ⟨(ids (ix1 r)).toNat, h.row r⟩

theorem rowNo_eq (r : Fin 192) : ids (ix1 r) = BitVec.ofNat 32 (rowNo x ids h r).val :=
  BitVec.eq_of_toNat_eq (by
    have := h.row r
    rw [BitVec.toNat_ofNat]
    show (ids (ix1 r)).toNat = (ids (ix1 r)).toNat % 2 ^ 32
    omega)

/-- The activations of that row. -/
def chosen (r : Fin 192) : Fin 2048 → EReal := fun j => x (ix3 (0 : Fin 1) (rowNo x ids h r) j)

/-- On such a row the two ways of stating scale and inverse agree in every group. -/
theorem scales_agree (r : Fin 192) (b : Fin 16) : kscale (gmax (Quant.part (chosen x ids h r) b)) = rscale (gmax (Quant.part (chosen x ids h r) b))
    ∧ kinv (gmax (Quant.part (chosen x ids h r) b)) = rinv (gmax (Quant.part (chosen x ids h r) b)) :=
  agree_gmax (by decide) _ fun j => h.small _

end

variable [Pre_pre.Facts]
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The activations and the indices on core `c`. -/
abbrev acts : FVec Ideal Pre_pre.S1x512x2048 .bf16 := m ((c.tc : Thread Cert.KernelIdeal.nD Cert.KernelIdeal.τ).loc Cert.KernelIdeal.main_arg0)
abbrev inds : IVec Pre_pre.S192 32 := m ((c.tc : Thread Cert.KernelIdeal.nD Cert.KernelIdeal.τ).loc Cert.KernelIdeal.main_arg1)

variable (h : Decode.Good (acts m c) (inds m c))

theorem kernel_ids (r : Fin 192) : Cert.KernelIdeal.Gen.V m c Cert.KernelIdeal.main_v1 (ix2 (0 : Fin 1) r) = BitVec.ofNat 32 (rowNo (acts m c) (inds m c) h r).val :=
  (Cert.KernelIdeal.Hand.ids_apply m c r).trans (rowNo_eq (acts m c) (inds m c) h r)

theorem kernel_rows (r : Fin 192) : Cert.KernelIdeal.Hand.named c (Cert.KernelIdeal.Gen.V m c Cert.KernelIdeal.main_v0) (rowNo (acts m c) (inds m c) h) r
    = chosen (acts m c) (inds m c) h r :=
  funext fun j => Cert.KernelIdeal.Hand.rows_apply m c _ j

variable (h0 : m' ((c.tc : Thread Cert.ReferenceIdeal.nD Cert.ReferenceIdeal.τ).loc Cert.ReferenceIdeal.main_arg0) = acts m c)
  (h1 : m' ((c.tc : Thread Cert.ReferenceIdeal.nD Cert.ReferenceIdeal.τ).loc Cert.ReferenceIdeal.main_arg1) = inds m c)

include h h0 h1

theorem reference_rows (r : Fin 192) : Cert.ReferenceIdeal.Hand.rowOf (Cert.ReferenceIdeal.Gen.V m' c Cert.ReferenceIdeal.main_v1) r
    = chosen (acts m c) (inds m c) h r := by
  funext j
  have e := Cert.ReferenceIdeal.Hand.rows_eq m' c
  rw [h0, h1] at e
  refine (congrFun e (ix2 r j)).trans ?_
  refine (Cert.ReferenceIdeal.Hand.taken_apply _ (inds m c) r j _ (rowNo_eq (acts m c) (inds m c) h r)).trans ?_
  exact Cert.ReferenceIdeal.Hand.flat_apply (acts m c) _ j

variable (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3))
  (s0 : Cert.KernelIdeal.Hand.Bf (F := Ideal) c Cert.KernelIdeal.cc0_scratch0) (s1 : Cert.KernelIdeal.Hand.Bf (F := Ideal) c Cert.KernelIdeal.cc0_scratch1)
  (s2 : Cert.KernelIdeal.Hand.Bf (F := Ideal) c Cert.KernelIdeal.cc0_scratch2) (s3 : Cert.KernelIdeal.Hand.Bf (F := Ideal) c Cert.KernelIdeal.cc0_scratch3)
  (s4 : Cert.KernelIdeal.Hand.Bf (F := Ideal) c Cert.KernelIdeal.cc0_scratch4) (s5 : Cert.KernelIdeal.Hand.Bf (F := Ideal) c Cert.KernelIdeal.cc0_scratch5)
  (s6 : Cert.KernelIdeal.Hand.Bf (F := Ideal) c Cert.KernelIdeal.cc0_scratch6) (s7 : Cert.KernelIdeal.Hand.Bf (F := Ideal) c Cert.KernelIdeal.cc0_scratch7)
  (s8 : Cert.KernelIdeal.Hand.Bf (F := Ideal) c Cert.KernelIdeal.cc0_scratch8)

/-- The codes. -/
theorem codes_equal : (Cert.KernelIdeal.Hand.left m c s0 s1 s2 s3 s4 s5 s6 s7 s8).2.1
    = Cert.ReferenceIdeal.Gen.out0_4 (Cert.ReferenceIdeal.Gen.V m' c Cert.ReferenceIdeal.main_v1)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
  refine ext2 (a := 192) (b := 2048) _ _ fun r o => ?_
  refine (Cert.KernelIdeal.Hand.codes_value c _ _ _ _ _ _ _ s0 s1 s2 s3 s4 s5 s6 s7 s8 _ (kernel_ids m c h) r o).trans ?_
  refine Eq.trans ?_ (Cert.ReferenceIdeal.Hand.out4_apply _ _ _ r o).symm
  rw [kernel_rows m c h, reference_rows m m' c h h0 h1]
  exact code_agree _ (fun b => (scales_agree _ _ h r b).2) o

/-- The scales. -/
theorem scales_equal : (Cert.KernelIdeal.Hand.left m c s0 s1 s2 s3 s4 s5 s6 s7 s8).2.2
    = Cert.ReferenceIdeal.Gen.out0_5 (Cert.ReferenceIdeal.Gen.V m' c Cert.ReferenceIdeal.main_v1)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
  refine ext2 (a := 192) (b := 16) _ _ fun r b => ?_
  refine (Cert.KernelIdeal.Hand.scales_value c _ _ _ _ _ _ _ s0 s1 s2 s3 s4 s5 s6 s7 s8 _ (kernel_ids m c h) r b).trans ?_
  refine Eq.trans ?_ (Cert.ReferenceIdeal.Hand.out5_apply _ _ _ r b).symm
  rw [kernel_rows m c h, reference_rows m m' c h h0 h1]
  exact (scales_agree _ _ h r b).1

include h2 h3

/-- The product. -/
theorem product_equal : (Cert.KernelIdeal.Hand.left m c s0 s1 s2 s3 s4 s5 s6 s7 s8).1
    = Cert.ReferenceIdeal.Gen.out0_3 (Cert.ReferenceIdeal.Gen.V m' c Cert.ReferenceIdeal.main_v1)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
  refine ext2 (a := 192) (b := 8192) _ _ fun r o => ?_
  refine (Cert.KernelIdeal.Hand.prod_value c _ _ _ _ _ _ _ s0 s1 s2 s3 s4 s5 s6 s7 s8 _ (kernel_ids m c h) r o).trans ?_
  refine Eq.trans ?_ (Cert.ReferenceIdeal.Hand.out3_apply _ _ _ r o).symm
  rw [kernel_rows m c h, reference_rows m m' c h h0 h1, h2, h3, Cert.KernelIdeal.Gen.V_main_arg2 m c, Cert.KernelIdeal.Gen.V_main_arg3 m c]
  exact prod_agree _ (fun b => (scales_agree _ _ h r b).1) (fun b => (scales_agree _ _ h r b).2) _ _ o

/-- All three. -/
theorem left_eq : Cert.KernelIdeal.Hand.left m c s0 s1 s2 s3 s4 s5 s6 s7 s8
    = (Cert.ReferenceIdeal.Gen.out0_3 (Cert.ReferenceIdeal.Gen.V m' c Cert.ReferenceIdeal.main_v1)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)),
      Cert.ReferenceIdeal.Gen.out0_4 (Cert.ReferenceIdeal.Gen.V m' c Cert.ReferenceIdeal.main_v1)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)),
      Cert.ReferenceIdeal.Gen.out0_5 (Cert.ReferenceIdeal.Gen.V m' c Cert.ReferenceIdeal.main_v1)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))) :=
  triple (Cert.KernelIdeal.Hand.left m c s0 s1 s2 s3 s4 s5 s6 s7 s8) (product_equal m m' c h h0 h1 h2 h3 s0 s1 s2 s3 s4 s5 s6 s7 s8)
    (codes_equal m m' c h h0 h1 s0 s1 s2 s3 s4 s5 s6 s7 s8) (scales_equal m m' c h h0 h1 s0 s1 s2 s3 s4 s5 s6 s7 s8)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.LaunchBits
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem Cert.Kernel

/-- The value claim: both programs end with the results the reference computes. -/
theorem value [Cert.Pre_pre.Facts] : Cert.algebraic_KernelIdeal_ReferenceIdeal_pre_pre (hKernelIdeal := Cert.KernelIdeal.Gen.facts)
    (hReferenceIdeal := Cert.ReferenceIdeal.Gen.facts) := by
  intro m g m' g' hp hm
  have h : ∀ c, Cert.Decode.Good (Cert.Equation.acts m c) (Cert.Equation.inds m c) := fun c => Cert.Decode.good _ _ _ _ (hp c)
  have hk := Cert.KernelIdeal.Hand.run_named m g _ _ _ fun c s0 s1 s2 s3 s4 s5 s6 s7 s8 =>
    Cert.Equation.left_eq m m' c (h c) (hm c).1 (hm c).2.1 (hm c).2.2.1 (hm c).2.2.2 s0 s1 s2 s3 s4 s5 s6 s7 s8
  have hr := Cert.ReferenceIdeal.Hand.run_outs m' g'
  exact ⟨_, _, _, hk, hr⟩

theorem claim : Cert.Claim := ⟨Cert.Kernel.Gen.facts, Cert.KernelIdeal.Gen.facts, Cert.ReferenceIdeal.Gen.facts, Cert.Pre_pre.Gen.facts,
  fun m g _ => Cert.Kernel.Hand.frame_run m g, fun m g _ => Cert.KernelIdeal.Hand.frame_run m g, fun m g _ => Cert.KernelIdeal.Hand.frame_run m g,
  fun m g _ => Cert.ReferenceIdeal.Gen.frame m g, fun m g _ => Cert.ReferenceIdeal.Gen.frame m g, trivial,
  @value Cert.Pre_pre.Gen.facts⟩

end Cert.Proof

end
